-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_within_clip_KernelIdeal (hKernelIdeal := hKernelIdeal) (hReferenceIdeal := hReferenceIdeal) (hPre_within_clip_KernelIdeal := hPre_within_clip_KernelIdeal)
-- ==== Pre_within_clip_KernelIdeal.lean ====
abbrev S256x1024 : Shape := ⟨2, ![256, 1024]⟩
abbrev S1024x1024 : Shape := ⟨2, ![1024, 1024]⟩
abbrev S_ : Shape := ⟨0, ![]⟩

class Facts : Prop where
  bcast_S_S256x1024 : S_.BroadcastsInDim S256x1024 (![] : Fin 0 → Fin S256x1024.rank)
  dot_S256x1024_S1024x1024_S256x1024_1_0_0_1_n_n_wf : DotDims.WF S256x1024 S1024x1024 S256x1024 [1] [0] [0] [1] [] []

variable [Facts]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def fn {F : FTy → Type} [FloatOps F] (main_arg0 : FVec F S256x1024 .f32) (main_arg1 : FVec F S1024x1024 .f32) : IVec S256x1024 1 :=
  let main_v0 : FVec F S256x1024 .f32 := (fun l r => Host.dotGeneral dot_S256x1024_S1024x1024_S256x1024_1_0_0_1_n_n none l r) main_arg0 main_arg1
  let main_v1 : FVec F S256x1024 .f32 := Host.absf main_v0
  let main_cst : FVec F S_ .f32 := constant S_ .f32 0x42700000#32
  let main_v2 : FVec F S256x1024 .f32 := broadcastInDim S256x1024 ![] bcast_S_S256x1024 main_cst
  let main_v3 : IVec S256x1024 1 := cmpf .ole main_v1 main_v2
  main_v3
-- ==== Pre_within_clip_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S256x1024 : Shape := ⟨2, ![256, 1024]⟩
abbrev S1024x1024 : Shape := ⟨2, ![1024, 1024]⟩
abbrev S1024x256 : Shape := ⟨2, ![1024, 256]⟩
abbrev S4x1024x256 : Shape := ⟨3, ![4, 1024, 256]⟩
abbrev S3x256x256 : Shape := ⟨3, ![3, 256, 256]⟩
abbrev S7 : Shape := ⟨1, ![7]⟩
abbrev S3 : Shape := ⟨1, ![3]⟩
abbrev S1 : Shape := ⟨1, ![1]⟩
abbrev S_ : Shape := ⟨0, ![]⟩
abbrev S256x512 : Shape := ⟨2, ![256, 512]⟩
abbrev S1x512x256 : Shape := ⟨3, ![1, 512, 256]⟩
abbrev S512x256 : Shape := ⟨2, ![512, 256]⟩
abbrev S1x1024x256 : Shape := ⟨3, ![1, 1024, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x256, .f32⟩
  | .local _ .vmem, ⟨0, _⟩ => ⟨S1024x256, .f32⟩
  | .local _ .vmem, ⟨1, _⟩ => ⟨S256x1024, .f32⟩
  | .local _ .vmem, ⟨2, _⟩ => ⟨S4x1024x256, .f32⟩
  | .local _ .vmem, ⟨3, _⟩ => ⟨S3x256x256, .bf16⟩
  | .local _ .vmem, ⟨4, _⟩ => ⟨S3x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  ![0, v14.toNat]
def k0_off2 (d0 : Dev nD) : Fin 2 → Nat :=
  let c512_i32_23 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_6 : BitVec 32 := 256#32
  let v15 : BitVec 32 := Scalar.muli v13 c256_i32_6
  ![512, v15.toNat]
def k0_off3 (d0 : Dev nD) (c1_i32_24 : BitVec 32) : Fin 2 → Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.addi v2 c1_i32_24
  let c1_i32_25 : BitVec 32 := 1#32
  let v35 : BitVec 32 := Scalar.addi v34 c1_i32_25
  let c4_i32_26 : BitVec 32 := 4#32
  let c0_i32_27 : BitVec 32 := 0#32
  let v36 : BitVec 1 := Scalar.cmpi .eq c4_i32_26 c0_i32_27
  let c1_i32_28 : BitVec 32 := 1#32
  let v37 : BitVec 32 := Scalar.select v36 c1_i32_28 c4_i32_26
  let v38 : BitVec 32 := Scalar.remsi v35 v37
  let c0_i32_30 : BitVec 32 := 0#32
  let v40 : BitVec 1 := Scalar.cmpi .slt v38 c0_i32_30
  let c0_i32_31 : BitVec 32 := 0#32
  let v41 : BitVec 1 := Scalar.cmpi .slt v37 c0_i32_31
  let v42 : BitVec 1 := Scalar.xori v40 v41
  let c0_i32_29 : BitVec 32 := 0#32
  let v39 : BitVec 1 := Scalar.cmpi .ne v38 c0_i32_29
  let v43 : BitVec 1 := Scalar.andi v42 v39
  let v44 : BitVec 32 := Scalar.addi v38 v37
  let v45 : BitVec 32 := Scalar.select v43 v44 v38
  let c256_i32_32 : BitVec 32 := 256#32
  let v46 : BitVec 32 := Scalar.muli v45 c256_i32_32
  ![0, v46.toNat]
def k0_dev1 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v89 : BitVec 32 := Scalar.addi v2 c1_i32_64
  let c4_i32_65 : BitVec 32 := 4#32
  let c0_i32_66 : BitVec 32 := 0#32
  let v90 : BitVec 1 := Scalar.cmpi .eq c4_i32_65 c0_i32_66
  let c1_i32_67 : BitVec 32 := 1#32
  let v91 : BitVec 32 := Scalar.select v90 c1_i32_67 c4_i32_65
  let v92 : BitVec 32 := Scalar.remsi v89 v91
  let c0_i32_69 : BitVec 32 := 0#32
  let v94 : BitVec 1 := Scalar.cmpi .slt v92 c0_i32_69
  let c0_i32_70 : BitVec 32 := 0#32
  let v95 : BitVec 1 := Scalar.cmpi .slt v91 c0_i32_70
  let v96 : BitVec 1 := Scalar.xori v94 v95
  let c0_i32_68 : BitVec 32 := 0#32
  let v93 : BitVec 1 := Scalar.cmpi .ne v92 c0_i32_68
  let v97 : BitVec 1 := Scalar.andi v96 v93
  let v98 : BitVec 32 := Scalar.addi v92 v91
  let v99 : BitVec 32 := Scalar.select v97 v98 v92
  let c1_i32_72 : BitVec 32 := 1#32
  let v100 : BitVec 32 := Scalar.muli v99 c1_i32_72
  let v101 : BitVec 32 := Scalar.addi c0_i32_73 v100
  v101.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_74 : BitVec 32 := 2#32
  let v102 : BitVec 32 := Scalar.addi v2 c2_i32_74
  let c4_i32_75 : BitVec 32 := 4#32
  let c0_i32_76 : BitVec 32 := 0#32
  let v103 : BitVec 1 := Scalar.cmpi .eq c4_i32_75 c0_i32_76
  let c1_i32_77 : BitVec 32 := 1#32
  let v104 : BitVec 32 := Scalar.select v103 c1_i32_77 c4_i32_75
  let v105 : BitVec 32 := Scalar.remsi v102 v104
  let c0_i32_79 : BitVec 32 := 0#32
  let v107 : BitVec 1 := Scalar.cmpi .slt v105 c0_i32_79
  let c0_i32_80 : BitVec 32 := 0#32
  let v108 : BitVec 1 := Scalar.cmpi .slt v104 c0_i32_80
  let v109 : BitVec 1 := Scalar.xori v107 v108
  let c0_i32_78 : BitVec 32 := 0#32
  let v106 : BitVec 1 := Scalar.cmpi .ne v105 c0_i32_78
  let v110 : BitVec 1 := Scalar.andi v109 v106
  let v111 : BitVec 32 := Scalar.addi v105 v104
  let v112 : BitVec 32 := Scalar.select v110 v111 v105
  let c1_i32_82 : BitVec 32 := 1#32
  let v113 : BitVec 32 := Scalar.muli v112 c1_i32_82
  let v114 : BitVec 32 := Scalar.addi c0_i32_83 v113
  v114.toNat
def k0_dev3 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v115 : BitVec 32 := Scalar.addi v2 c3_i32_84
  let c4_i32_85 : BitVec 32 := 4#32
  let c0_i32_86 : BitVec 32 := 0#32
  let v116 : BitVec 1 := Scalar.cmpi .eq c4_i32_85 c0_i32_86
  let c1_i32_87 : BitVec 32 := 1#32
  let v117 : BitVec 32 := Scalar.select v116 c1_i32_87 c4_i32_85
  let v118 : BitVec 32 := Scalar.remsi v115 v117
  let c0_i32_89 : BitVec 32 := 0#32
  let v120 : BitVec 1 := Scalar.cmpi .slt v118 c0_i32_89
  let c0_i32_90 : BitVec 32 := 0#32
  let v121 : BitVec 1 := Scalar.cmpi .slt v117 c0_i32_90
  let v122 : BitVec 1 := Scalar.xori v120 v121
  let c0_i32_88 : BitVec 32 := 0#32
  let v119 : BitVec 1 := Scalar.cmpi .ne v118 c0_i32_88
  let v123 : BitVec 1 := Scalar.andi v122 v119
  let v124 : BitVec 32 := Scalar.addi v118 v117
  let v125 : BitVec 32 := Scalar.select v123 v124 v118
  let c1_i32_92 : BitVec 32 := 1#32
  let v126 : BitVec 32 := Scalar.muli v125 c1_i32_92
  let v127 : BitVec 32 := Scalar.addi c0_i32_93 v126
  v127.toNat
def k0_dev4 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_94 : BitVec 32 := 0#32
  let v128 : BitVec 32 := Scalar.addi v2 c0_i32_94
  let c1_i32_95 : BitVec 32 := 1#32
  let v129 : BitVec 32 := Scalar.addi v128 c1_i32_95
  let c4_i32_96 : BitVec 32 := 4#32
  let c0_i32_97 : BitVec 32 := 0#32
  let v130 : BitVec 1 := Scalar.cmpi .eq c4_i32_96 c0_i32_97
  let c1_i32_98 : BitVec 32 := 1#32
  let v131 : BitVec 32 := Scalar.select v130 c1_i32_98 c4_i32_96
  let v132 : BitVec 32 := Scalar.remsi v129 v131
  let c0_i32_100 : BitVec 32 := 0#32
  let v134 : BitVec 1 := Scalar.cmpi .slt v132 c0_i32_100
  let c0_i32_101 : BitVec 32 := 0#32
  let v135 : BitVec 1 := Scalar.cmpi .slt v131 c0_i32_101
  let v136 : BitVec 1 := Scalar.xori v134 v135
  let c0_i32_99 : BitVec 32 := 0#32
  let v133 : BitVec 1 := Scalar.cmpi .ne v132 c0_i32_99
  let v137 : BitVec 1 := Scalar.andi v136 v133
  let v138 : BitVec 32 := Scalar.addi v132 v131
  let v139 : BitVec 32 := Scalar.select v137 v138 v132
  let c1_i32_139 : BitVec 32 := 1#32
  let v173 : BitVec 32 := Scalar.muli v139 c1_i32_139
  let v174 : BitVec 32 := Scalar.addi c0_i32_140 v173
  v174.toNat
def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_145 : BitVec 32 := 1#32
  let v183 : BitVec 32 := Scalar.addi v2 c1_i32_145
  let c1_i32_146 : BitVec 32 := 1#32
  let v184 : BitVec 32 := Scalar.addi v183 c1_i32_146
  let c4_i32_147 : BitVec 32 := 4#32
  let c0_i32_148 : BitVec 32 := 0#32
  let v185 : BitVec 1 := Scalar.cmpi .eq c4_i32_147 c0_i32_148
  let c1_i32_149 : BitVec 32 := 1#32
  let v186 : BitVec 32 := Scalar.select v185 c1_i32_149 c4_i32_147
  let v187 : BitVec 32 := Scalar.remsi v184 v186
  let c0_i32_151 : BitVec 32 := 0#32
  let v189 : BitVec 1 := Scalar.cmpi .slt v187 c0_i32_151
  let c0_i32_152 : BitVec 32 := 0#32
  let v190 : BitVec 1 := Scalar.cmpi .slt v186 c0_i32_152
  let v191 : BitVec 1 := Scalar.xori v189 v190
  let c0_i32_150 : BitVec 32 := 0#32
  let v188 : BitVec 1 := Scalar.cmpi .ne v187 c0_i32_150
  let v192 : BitVec 1 := Scalar.andi v191 v188
  let v193 : BitVec 32 := Scalar.addi v187 v186
  let v194 : BitVec 32 := Scalar.select v192 v193 v187
  let c1_i32_170 : BitVec 32 := 1#32
  let v210 : BitVec 32 := Scalar.muli v194 c1_i32_170
  let v211 : BitVec 32 := Scalar.addi c0_i32_171 v210
  v211.toNat
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_176 : BitVec 32 := 2#32
  let v220 : BitVec 32 := Scalar.addi v2 c2_i32_176
  let c1_i32_177 : BitVec 32 := 1#32
  let v221 : BitVec 32 := Scalar.addi v220 c1_i32_177
  let c4_i32_178 : BitVec 32 := 4#32
  let c0_i32_179 : BitVec 32 := 0#32
  let v222 : BitVec 1 := Scalar.cmpi .eq c4_i32_178 c0_i32_179
  let c1_i32_180 : BitVec 32 := 1#32
  let v223 : BitVec 32 := Scalar.select v222 c1_i32_180 c4_i32_178
  let v224 : BitVec 32 := Scalar.remsi v221 v223
  let c0_i32_182 : BitVec 32 := 0#32
  let v226 : BitVec 1 := Scalar.cmpi .slt v224 c0_i32_182
  let c0_i32_183 : BitVec 32 := 0#32
  let v227 : BitVec 1 := Scalar.cmpi .slt v223 c0_i32_183
  let v228 : BitVec 1 := Scalar.xori v226 v227
  let c0_i32_181 : BitVec 32 := 0#32
  let v225 : BitVec 1 := Scalar.cmpi .ne v224 c0_i32_181
  let v229 : BitVec 1 := Scalar.andi v228 v225
  let v230 : BitVec 32 := Scalar.addi v224 v223
  let v231 : BitVec 32 := Scalar.select v229 v230 v224
  let c1_i32_201 : BitVec 32 := 1#32
  let v247 : BitVec 32 := Scalar.muli v231 c1_i32_201
  let v248 : BitVec 32 := Scalar.addi c0_i32_202 v247
  v248.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_217 : BitVec 32 := 256#32
  let v268 : BitVec 32 := Scalar.muli v2 c256_i32_217
  let v269 : Index := Scalar.indexCast v268
  let c0_218 : Index := 0#32
  ![v269.toNat, 0]
def k0_off5 (d0 : Dev nD) (c0_i32_219 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v271 : BitVec 32 := Scalar.subi v2 c0_i32_219
  let c1_i32_220 : BitVec 32 := 1#32
  let v272 : BitVec 32 := Scalar.subi v271 c1_i32_220
  let c4_i32_221 : BitVec 32 := 4#32
  let c0_i32_222 : BitVec 32 := 0#32
  let v273 : BitVec 1 := Scalar.cmpi .eq c4_i32_221 c0_i32_222
  let c1_i32_223 : BitVec 32 := 1#32
  let v274 : BitVec 32 := Scalar.select v273 c1_i32_223 c4_i32_221
  let v275 : BitVec 32 := Scalar.remsi v272 v274
  let c0_i32_225 : BitVec 32 := 0#32
  let v277 : BitVec 1 := Scalar.cmpi .slt v275 c0_i32_225
  let c0_i32_226 : BitVec 32 := 0#32
  let v278 : BitVec 1 := Scalar.cmpi .slt v274 c0_i32_226
  let v279 : BitVec 1 := Scalar.xori v277 v278
  let c0_i32_224 : BitVec 32 := 0#32
  let v276 : BitVec 1 := Scalar.cmpi .ne v275 c0_i32_224
  let v280 : BitVec 1 := Scalar.andi v279 v276
  let v281 : BitVec 32 := Scalar.addi v275 v274
  let v282 : BitVec 32 := Scalar.select v280 v281 v275
  let c256_i32_240 : BitVec 32 := 256#32
  let v294 : BitVec 32 := Scalar.muli v282 c256_i32_240
  let v295 : Index := Scalar.indexCast v294
  let c0_241 : Index := 0#32
  ![v295.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/-
# The all-to-all product's protocol

Four devices each hold 256 rows of `x` and all of `w`. Device `c` multiplies its rows with the columns of device
`c + k + 1` (`k = 0, 1, 2`), rounds the silu of the product to bf16 in slot `k` of its send buffer and transfers the
slot into slot `k` of that device's receive buffer; the product with its own columns it writes to its result itself.
This module states the cells, the contents of every buffer a transfer moves, the schedule of the barrier, send and
receive cells, and what each device owes at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.AllToAllProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging cells' copy, the protocol's (duties `Fin 3`), the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The devices -/

/-- The device `k + 1` places after `c`. -/
def adv (k : Fin 3) (c : Dev nD) : Dev nD := ⟨(c.val + k.val + 1) % 4, Nat.mod_lt _ (by decide)⟩
/-- The device `k + 1` places before `c`. -/
def bck (k : Fin 3) (c : Dev nD) : Dev nD := ⟨(c.val + 3 - k.val) % 4, Nat.mod_lt _ (by decide)⟩

theorem bck_adv (k : Fin 3) (c : Dev nD) : bck k (adv k c) = c := by revert k c; decide
theorem adv_bck (k : Fin 3) (c : Dev nD) : adv k (bck k c) = c := by revert k c; decide
/-- Going on `k + 1` places and then the remaining `4 - (k + 1)` is going round. -/
theorem adv_rev_adv (k : Fin 3) (c : Dev nD) : adv k.rev (adv k c) = c := by revert k c; decide
theorem adv_adv_rev (k : Fin 3) (c : Dev nD) : adv k (adv k.rev c) = c := by revert k c; decide

/-- The rotation by `k + 1` places. -/
def rot (k : Fin 3) : Dev nD ≃ Dev nD := ⟨adv k, bck k, bck_adv k, adv_bck k⟩

theorem dev1_eq (c : Dev nD) : (⟨k0_dev1 c, k0_dev1_lt c⟩ : Dev nD) = adv 0 c := by revert c; decide +kernel
theorem dev2_eq (c : Dev nD) : (⟨k0_dev2 c, k0_dev2_lt c⟩ : Dev nD) = adv 1 c := by revert c; decide +kernel
theorem dev3_eq (c : Dev nD) : (⟨k0_dev3 c, k0_dev3_lt c⟩ : Dev nD) = adv 2 c := by revert c; decide +kernel
theorem dev4_eq (c : Dev nD) : (⟨k0_dev4 c, k0_dev4_lt c⟩ : Dev nD) = adv 0 c := by revert c; decide +kernel
theorem dev5_eq (c : Dev nD) : (⟨k0_dev5 c, k0_dev5_lt c⟩ : Dev nD) = adv 1 c := by revert c; decide +kernel
theorem dev6_eq (c : Dev nD) : (⟨k0_dev6 c, k0_dev6_lt c⟩ : Dev nD) = adv 2 c := by revert c; decide +kernel

/-- The column block of `w` the device's slot `s` of the weight buffer holds: the target device's for `s = 0, 1, 2`,
    its own for `s = 3`. -/
def colOf (c : Dev nD) (s : ℕ) : ℕ := (c.val + s + 1) % 4

theorem off1_eq (c : Dev nD) : k0_off1 c = ![0, 256 * colOf c 0] := by revert c; decide +kernel
theorem off2_eq (c : Dev nD) : k0_off2 c = ![512, 256 * colOf c 0] := by revert c; decide +kernel
theorem off3_1 (c : Dev nD) : k0_off3 c 1#32 = ![0, 256 * colOf c 1] := by revert c; decide +kernel
theorem off3_2 (c : Dev nD) : k0_off3 c 2#32 = ![0, 256 * colOf c 2] := by revert c; decide +kernel
theorem off3_3 (c : Dev nD) : k0_off3 c 3#32 = ![0, 256 * colOf c 3] := by revert c; decide +kernel
theorem off4_eq (c : Dev nD) : k0_off4 c = ![256 * c.val, 0] := by revert c; decide +kernel
theorem off5_0 (c : Dev nD) : k0_off5 c 0#32 = ![256 * (bck 0 c).val, 0] := by revert c; decide +kernel
theorem off5_1 (c : Dev nD) : k0_off5 c 1#32 = ![256 * (bck 1 c).val, 0] := by revert c; decide +kernel
theorem off5_2 (c : Dev nD) : k0_off5 c 2#32 = ![256 * (bck 2 c).val, 0] := by revert c; decide +kernel

/-! ## The memrefs -/

abbrev xM : Memref sig .tc .hbm S256x1024 .f32 := Memref.whole main_arg0
abbrev wM : Memref sig .tc .hbm S1024x1024 .f32 := Memref.whole main_arg1
abbrev oM : Memref sig .tc .vmem S1024x256 .f32 := Memref.whole cc0_stg0_0
abbrev xvM : Memref sig .tc .vmem S256x1024 .f32 := Memref.whole cc0_scratch0
abbrev wvM : Memref sig .tc .vmem S4x1024x256 .f32 := Memref.whole cc0_scratch1
abbrev svM : Memref sig .tc .vmem S3x256x256 .bf16 := Memref.whole cc0_scratch2
abbrev rvM : Memref sig .tc .vmem S3x256x256 .bf16 := Memref.whole cc0_scratch3

theorem inb_slot (k : Fin 3) : ∀ a : Fin 3, (![k.val, 0, 0] : Fin 3 → ℕ) a + S1x256x256.size a ≤ S3x256x256.size a := by
  revert k; decide

/-- Slot `k` of a three-slot buffer. -/
abbrev slotR (k : Fin 3) : Rect S3x256x256 := Rect.unit (s := S3x256x256) ![k.val, 0, 0] S1x256x256.size (inb_slot k)
abbrev sSlot (k : Fin 3) : Memref sig .tc .vmem S256x256 .bf16 := (svM.slice (slotR k) (fun _ => rfl)).squeeze S256x256 squeezes_S1x256x256_S256x256
abbrev rSlot (k : Fin 3) : Memref sig .tc .vmem S256x256 .bf16 := (rvM.slice (slotR k) (fun _ => rfl)).squeeze S256x256 squeezes_S1x256x256_S256x256

/-! ## The cells -/

/-- The barrier semaphore (not scoped to the launch). -/
abbrev barS : Sem sig := (SemArray.scalar (sig.barrier 0 rfl) : Sems sig S_).sem
/-- The send and the receive semaphore of slot `k`. -/
def sendS (k : Fin 3) : DmaSem sig := ⟨8 + k.val, by have : sig.nDmaSem = 14 := rfl; omega⟩
def recvS (k : Fin 3) : DmaSem sig := ⟨11 + k.val, by have : sig.nDmaSem = 14 := rfl; omega⟩
/-- The local copies' semaphores. -/
def loadS (j : Fin 7) : DmaSem sig := ⟨1 + j.val, by have : sig.nDmaSem = 14 := rfl; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))
abbrev loadCell (c : Dev nD) (j : Fin 7) : GSem nD τ sig := ((c : Thread nD τ), .dma (loadS j))

/-- What a slot's transfer credits. -/
abbrev N : ℕ := (rSlot 0).view.dmaCredit
theorem N_pos : 0 < N := View.dmaCredit_pos _ (by decide)
theorem rCredit (k : Fin 3) : (rSlot k).view.dmaCredit = N := rfl
theorem sCredit (k : Fin 3) : (sSlot k).view.dmaCredit = N := rfl

/-! ## Contents -/

/-- Device `c`'s rows of `x`, and its copy of `w`. -/
def xb (c : Dev nD) : (main_arg0 : Ref sig .tc).ty.Contents (Elt F) := m ((c : Thread nD τ).loc main_arg0)
def wb (c : Dev nD) : (main_arg1 : Ref sig .tc).ty.Contents (Elt F) := m ((c : Thread nD τ).loc main_arg1)

/-- The row and column of `w` at an index of the weight buffer. -/
def wIdx (c : Dev nD) (i : S4x1024x256.Idx) : S1024x1024.Idx := fun a =>
  match a with
  | ⟨0, _⟩ => i 1
  | ⟨1, _⟩ => ⟨256 * colOf c (i 0).val + (i 2).val, by
      have h1 : colOf c (i 0).val < 4 := Nat.mod_lt _ (by decide)
      have h2 : (i 2).val < 256 := (i 2).isLt
      show _ < 1024; omega⟩

/-- The weight buffer of device `c` after its local copies: slot `s` holds the columns of block `colOf c s`. -/
def wv (c : Dev nD) : (cc0_scratch1 : Ref sig .tc).ty.Contents (Elt F) := fun i => wb m c (wIdx c i)

abbrev xLo : Rect S256x1024 := Rect.unit (s := S256x1024) ![0, 0] S256x512.size inb_S256x1024_S256x512_0_0
abbrev xHi : Rect S256x1024 := Rect.unit (s := S256x1024) ![0, 512] S256x512.size inb_S256x1024_S256x512_0_512
abbrev xAll : Rect S256x1024 := Rect.unit (s := S256x1024) ![0, 0] S256x1024.size inb_S256x1024_S256x1024_0_0
abbrev w0Lo : Rect S4x1024x256 := Rect.unit (s := S4x1024x256) ![0, 0, 0] S1x512x256.size inb_S4x1024x256_S1x512x256_0_0_0
abbrev w0Hi : Rect S4x1024x256 := Rect.unit (s := S4x1024x256) ![0, 512, 0] S1x512x256.size inb_S4x1024x256_S1x512x256_0_512_0
abbrev w1R : Rect S4x1024x256 := Rect.unit (s := S4x1024x256) ![1, 0, 0] S1x1024x256.size inb_S4x1024x256_S1x1024x256_1_0_0
abbrev w2R : Rect S4x1024x256 := Rect.unit (s := S4x1024x256) ![2, 0, 0] S1x1024x256.size inb_S4x1024x256_S1x1024x256_2_0_0
abbrev w3R : Rect S4x1024x256 := Rect.unit (s := S4x1024x256) ![3, 0, 0] S1x1024x256.size inb_S4x1024x256_S1x1024x256_3_0_0

/-- What the loads of the two operand buffers read. -/
abbrev rdX (c : Dev nD) (r : Rect S256x1024) : r.shape.Idx → Elt F .f32 := (xvM : Memref sig .tc .vmem S256x1024 .f32).view.readAt (Elt F) r.toLoadRect (xb m c)
abbrev rdW (c : Dev nD) (r : Rect S4x1024x256) : r.shape.Idx → Elt F .f32 := (wvM : Memref sig .tc .vmem S4x1024x256 .f32).view.readAt (Elt F) r.toLoadRect (wv m c)

/-- The block device `c` computes for the device of slot `k`: the silu of its rows' product with that device's columns,
    rounded to bf16. -/
def pay (c : Dev nD) : Fin 3 → S1x256x256.Idx → Elt F .bf16
  | 0 => k0_pay2 (k0_pay1 (rdX m c xLo) (rdW m c w0Lo)) (rdX m c xHi) (rdW m c w0Hi)
  | 1 => k0_pay3 (rdX m c xAll) (rdW m c w1R)
  | 2 => k0_pay5 (k0_pay4 (rdX m c xAll) (rdW m c w2R))

/-- The send buffer of device `c` with every slot filled. -/
def sv (c : Dev nD) : (cc0_scratch2 : Ref sig .tc).ty.Contents (Elt F) := fun i => pay m c (i 0) (fun a =>
  match a with
  | ⟨0, _⟩ => (0 : Fin 1)
  | ⟨1, _⟩ => i 1
  | ⟨2, _⟩ => i 2)
/-- The receive buffer of device `c` with every slot filled: slot `k` with the block of the device `k + 1` places before. -/
def rv (c : Dev nD) : (cc0_scratch3 : Ref sig .tc).ty.Contents (Elt F) := fun i => sv m (bck (i 0) c) i

/-- Slot `k` of a device's send buffer, and of its receive buffer, owned at contents `f`. -/
def sPts (c : Dev nD) (k : Fin 3) (f : Buf (Elt F) ((sSlot k).view.loc (c : Thread nD τ))) : sProp 𝕄 :=
  (sSlot k).view.loc (c : Thread nD τ) ↦[(sSlot k).view.set]{fullShare} f
def rPts (c : Dev nD) (k : Fin 3) (f : Buf (Elt F) ((rSlot k).view.loc (c : Thread nD τ))) : sProp 𝕄 :=
  (rSlot k).view.loc (c : Thread nD τ) ↦[(rSlot k).view.set]{fullShare} f

instance sPts_storable (c : Dev nD) (k : Fin 3) (f) : BI.Storable (upEmb : UEmb _ 𝕄) (sPts (F := F) c k f) := by unfold sPts; infer_instance
instance rPts_storable (c : Dev nD) (k : Fin 3) (f) : BI.Storable (upEmb : UEmb _ 𝕄) (rPts (F := F) c k f) := by unfold rPts; infer_instance

/-! ## The schedule -/

/-- The device `k + 1` places after `c` hands `c` slot `k` of its receive buffer, and that its receive cell is at round 0. -/
def barPay (c : Dev nD) (k : Fin 3) : sProp 𝕄 := iprop((∃ f, rPts (adv k c) k f) ∗ reached ER (recvCell (adv k c) k) 0)
def recvPay (c : Dev nD) (k : Fin 3) : sProp 𝕄 := rPts c k (rv m c)
def sendPay (c : Dev nD) (k : Fin 3) : sProp 𝕄 := sPts c k (sv m c)

/-- The slot of a send or receive semaphore. -/
def slotOf (j : DmaSem sig) : Fin 3 := ⟨(j.val - 8) % 3, Nat.mod_lt _ (by decide)⟩
theorem slotOf_send (k : Fin 3) : slotOf (sendS k) = k := by revert k; decide
theorem slotOf_recv (k : Fin 3) : slotOf (recvS k) = k := by revert k; decide

/-- One round, round 0: a barrier cell has three duties of one unit, duty `k` paid by the device `k + 1` places after;
    a send or a receive cell one duty, of a slot's credit. -/
def sched : Rounds.Schedule (GSem nD τ sig) (Fin 3) 𝕄 where
  duties g r := if r = 0 ∧ g.1.2 = .tc then
      (match g.2 with
        | .reg _ => Finset.univ
        | .dma j => if 8 ≤ j.val then {0} else ∅)
    else ∅
  unitless _ := False
  amount g _ _ := match g.2 with
    | .reg _ => 1
    | .dma _ => N
  payload g _ d := match g.2 with
    | .reg _ => barPay g.1.1 d
    | .dma j => if 11 ≤ j.val then recvPay m g.1.1 (slotOf j) else if 8 ≤ j.val then sendPay m g.1.1 (slotOf j) else iprop(emp)
  amount_pos g _ _ _ := by
    rcases g with ⟨t, s | j⟩
    · exact Nat.one_pos
    · exact N_pos

instance sched_payload_storable (g : GSem nD τ sig) (r : ℕ) (d : Fin 3) :
    BI.Storable (upEmb : UEmb _ 𝕄) ((sched (F := F) m).payload g r d) := by
  rcases g with ⟨t, s | j⟩
  · show BI.Storable upEmb (barPay t.1 d)
    unfold barPay; infer_instance
  · show BI.Storable upEmb (if 11 ≤ j.val then recvPay m t.1 (slotOf j) else if 8 ≤ j.val then sendPay m t.1 (slotOf j) else iprop(emp))
    unfold recvPay sendPay
    (repeat' split) <;> infer_instance

section Sched
variable (c : Dev nD) (k : Fin 3)

theorem duties_bar : (sched (F := F) m).duties (barCell c) 0 = Finset.univ := by
  dsimp only [sched]; exact if_pos ⟨rfl, rfl⟩
theorem duties_send : (sched (F := F) m).duties (sendCell c k) 0 = {0} := by
  dsimp only [sched]; rw [if_pos ⟨rfl, rfl⟩]; exact if_pos (by show 8 ≤ 8 + k.val; omega)
theorem duties_recv : (sched (F := F) m).duties (recvCell c k) 0 = {0} := by
  dsimp only [sched]; rw [if_pos ⟨rfl, rfl⟩]; exact if_pos (by show 8 ≤ 11 + k.val; omega)
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_send (d : Fin 3) : (sched (F := F) m).amount (sendCell c k) 0 d = N := rfl
theorem amount_recv (d : Fin 3) : (sched (F := F) m).amount (recvCell c k) 0 d = N := rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar : (sched (F := F) m).payload (barCell c) 0 k = barPay c k := rfl
theorem payload_send (d : Fin 3) : (sched (F := F) m).payload (sendCell c k) 0 d = sendPay m c k := by
  dsimp only [sched]
  rw [if_neg (by show ¬ 11 ≤ 8 + k.val; omega), if_pos (by show 8 ≤ 8 + k.val; omega), slotOf_send]
theorem payload_recv (d : Fin 3) : (sched (F := F) m).payload (recvCell c k) 0 d = recvPay m c k := by
  dsimp only [sched]
  rw [if_pos (by show 11 ≤ 11 + k.val; omega), slotOf_recv]

/-- A conjunction over the three slots. -/
theorem bigSep_three (Φ : Fin 3 → sProp 𝕄) : bigSep Finset.univ Φ = iprop(Φ 0 ∗ Φ 1 ∗ Φ 2) :=
  bigSep_univ_eq_bigSepL [0, 1, 2] (by decide) (by decide) Φ

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_three]; rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Sched

/-! ## What each core owes at launch; the levels -/

/-- A unit of the barrier cell of the device of slot `k`, and a slot's credit of its receive cell. -/
def oBar (c : Dev nD) (k : Fin 3) : CellTallies nD τ sig Unit := tallyAt (barCell (adv k c)) () 1
def oRecv (c : Dev nD) (k : Fin 3) : CellTallies nD τ sig Unit := tallyAt (recvCell (adv k c) k) () N
/-- What is owed before the last transfer, the last two, all three; -/
def oR1 (c : Dev nD) : CellTallies nD τ sig Unit := 0 + oRecv c 2
def oR2 (c : Dev nD) : CellTallies nD τ sig Unit := oR1 c + oRecv c 1
def oR3 (c : Dev nD) : CellTallies nD τ sig Unit := oR2 c + oRecv c 0
/-- before the last signal, the last two; and at launch. -/
def oB1 (c : Dev nD) : CellTallies nD τ sig Unit := oR3 c + oBar c 2
def oB2 (c : Dev nD) : CellTallies nD τ sig Unit := oB1 c + oBar c 1
def owed0 (c : Dev nD) : CellTallies nD τ sig Unit := oB2 c + oBar c 0

def L (g : GSem nD τ sig) : Finset Unit := if g.1.2 = .tc then {()} else ∅
/-- Barrier cells at 1, receive cells at 2, the others (staging, local copies, send) at 0. -/
def lv (g : GSem nD τ sig) (_ : Unit) : ℕ := match g.2 with
  | .reg _ => 1
  | .dma j => if 11 ≤ j.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Every cell that `O` owes to is a TensorCore's, above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tallyAt {n N' : ℕ} (c : Dev nD) (sm : SemLoc sig) (h : n < lv ((c : Thread nD τ), sm) ()) :
    Above n (tallyAt ((c : Thread nD τ), sm) () N') := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)

theorem above_oRecv (c : Dev nD) (k : Fin 3) : Above 1 (oRecv c k) :=
  above_tallyAt _ _ (by show 1 < (if 11 ≤ 11 + k.val then 2 else 0); rw [if_pos (by omega)]; decide)
theorem above_oBar (c : Dev nD) (k : Fin 3) : Above 0 (oBar c k) := above_tallyAt _ _ (by show 0 < 1; decide)
theorem above_mono {n n' : ℕ} (h : n ≤ n') {O : CellTallies nD τ sig Unit} (hO : Above n' O) : Above n O :=
  fun g u hg => ⟨(hO g u hg).1, Nat.lt_of_le_of_lt h (hO g u hg).2⟩
theorem above_oR1 (c : Dev nD) : Above 1 (oR1 c) := above_add (above_zero 1) (above_oRecv c 2)
theorem above_oR2 (c : Dev nD) : Above 1 (oR2 c) := above_add (above_oR1 c) (above_oRecv c 1)
theorem above_oR3 (c : Dev nD) : Above 1 (oR3 c) := above_add (above_oR2 c) (above_oRecv c 0)
theorem above_owed0 (c : Dev nD) : Above 0 (owed0 c) :=
  above_add (above_add (above_add (above_mono (by decide) (above_oR3 c)) (above_oBar c 2)) (above_oBar c 1)) (above_oBar c 0)

/-- A core owing only above a cell's level may wait on it. -/
theorem mayWait_of_above (c : Dev nD) (sm : SemLoc sig) (O : CellTallies nD τ sig Unit) (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

theorem lv_low (c : Dev nD) (q : DmaSem sig) (hq : q.val < 11) : lv ((c : Thread nD τ), .dma q) () = 0 := by
  show (if 11 ≤ q.val then 2 else 0) = 0
  rw [if_neg (by omega)]

end Cert.AllToAllProof

end
-- ==== Proof.Steps.lean ====
/-
# The steps of the body

The rules the body is executed by, stated once each at the protocol's cells: a local copy and the wait for it, a signal
of a barrier cell, the barrier wait, a slot's transfer, the waits on a send and on a receive cell. The first section
holds the facts on contents that they need.
-/
module

public import proofs.«01_k».proof.Proof.Common

@[expose] public section

noncomputable section

namespace Cert.AllToAllProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A whole-view write is the target contents on the view's elements once the view reads the payload off the target. -/
theorem write_eq_target {κ : Kind} {sp : Space} {s : Shape} {e : EltTy} (v : View sig κ sp s e) (fd ft : v.ty.Contents (Elt F))
    (w : s.Idx → Elt F e) (h : v.read (Elt F) ft = w) : ∀ i ∈ v.set, v.write (Elt F) fd w Finset.univ i = ft i := fun i hi => by
  obtain ⟨x, -, rfl⟩ := Finset.mem_map.mp hi
  exact View.eq_of_read_eq (by rw [View.read_write_univ, h])

theorem sSlot_set (k : Fin 3) : (sSlot k).view.set = (svM.access (slotR k) : View sig .tc _ _ _).set := View.set_reshape _ _
theorem rSlot_set (k : Fin 3) : (rSlot k).view.set = (rvM.access (slotR k) : View sig .tc _ _ _).set := View.set_reshape _ _

/-- Slot `k` of the filled send buffer reads the block computed for it. -/
theorem read_sv (c : Dev nD) (k : Fin 3) : (svM.access (slotR k) : View sig .tc _ _ _).read (Elt F) (sv m c) = pay m c k := funext fun x => by
  have h0 : ((slotR k).emb x) 0 = k := Fin.ext (by
    have hx : (x 0).val < 1 := (x 0).isLt
    show k.val + 1 * (x 0).val = k.val; omega)
  have h : (fun a : Fin 3 => (match a with
      | ⟨0, _⟩ => (0 : Fin 1)
      | ⟨1, _⟩ => ((slotR k).emb x) 1
      | ⟨2, _⟩ => ((slotR k).emb x) 2 : Fin (S1x256x256.size a))) = x := funext fun a => by
    fin_cases a
    · exact Fin.ext (by have hx : (x 0).val < 1 := (x 0).isLt; show 0 = (x 0).val; omega)
    · exact Fin.ext (by show 0 + 1 * (x 1).val = (x 1).val; omega)
    · exact Fin.ext (by show 0 + 1 * (x 2).val = (x 2).val; omega)
  show pay m c (((slotR k).emb x) 0) _ = _
  rw [h0]
  exact congrArg (pay m c k) h

/-- Slot `k` of the receive buffer of the device `k + 1` places after reads what slot `k` of the send buffer reads. -/
theorem read_rv (c : Dev nD) (k : Fin 3) :
    (rSlot k).view.read (Elt F) (rv m (adv k c)) = (sSlot k).view.read (Elt F) (sv m c) := funext fun x => by
  have h0 : ((slotR k).emb (Shape.reshapeEquiv squeezes_S1x256x256_S256x256.numel_eq x)) 0 = k := Fin.ext (by
    have hx : ((Shape.reshapeEquiv squeezes_S1x256x256_S256x256.numel_eq x) 0).val < 1 := Fin.isLt _
    show k.val + 1 * _ = k.val; omega)
  show sv m (bck (((slotR k).emb (Shape.reshapeEquiv squeezes_S1x256x256_S256x256.numel_eq x)) 0) (adv k c)) _ = sv m c _
  rw [h0, bck_adv]
  rfl

/-- What a copy of 512 rows of a column block of `w` reads is what its half slot of the weight buffer is to hold. -/
theorem read_w512 (c : Dev nD) (s r : ℕ) (off : Fin 2 → ℕ) (hoff : off = ![r, 256 * colOf c s])
    (inb : ∀ a, (![s, r, 0] : Fin 3 → ℕ) a + S1x512x256.size a ≤ S4x1024x256.size a) (inb' : ∀ a, off a + S512x256.size a ≤ S1024x1024.size a) :
    (wM.slice (Rect.unit (s := S1024x1024) off S512x256.size inb') (fun _ => rfl)).view.read (Elt F) (wb m c)
      = ((wvM.slice (Rect.unit (s := S4x1024x256) ![s, r, 0] S1x512x256.size inb) (fun _ => rfl)).squeeze S512x256 squeezes_S1x512x256_S512x256).view.read (Elt F) (wv m c) := by
  subst hoff
  refine funext fun x => ?_
  have e : Shape.reshapeEquiv squeezes_S1x512x256_S512x256.numel_eq x = Fin.cons ⟨0, Nat.one_pos⟩ x := Shape.reshapeEquiv_cons_one _ x
  show wb m c _ = wb m c (wIdx c ((Rect.unit (s := S4x1024x256) ![s, r, 0] S1x512x256.size inb).emb (Shape.reshapeEquiv squeezes_S1x512x256_S512x256.numel_eq x)))
  rw [e]
  refine congrArg (wb m c) (funext fun a => ?_)
  fin_cases a
  · rfl
  · exact Fin.ext (by
      show 256 * colOf c s + 1 * (x 1).val = 256 * colOf c (s + 1 * 0) + (0 + 1 * (x 1).val)
      rw [Nat.mul_zero, Nat.add_zero, Nat.zero_add])

/-- The same for a whole column block. -/
theorem read_w1024 (c : Dev nD) (s : ℕ) (off : Fin 2 → ℕ) (hoff : off = ![0, 256 * colOf c s])
    (inb : ∀ a, (![s, 0, 0] : Fin 3 → ℕ) a + S1x1024x256.size a ≤ S4x1024x256.size a) (inb' : ∀ a, off a + S1024x256.size a ≤ S1024x1024.size a) :
    (wM.slice (Rect.unit (s := S1024x1024) off S1024x256.size inb') (fun _ => rfl)).view.read (Elt F) (wb m c)
      = ((wvM.slice (Rect.unit (s := S4x1024x256) ![s, 0, 0] S1x1024x256.size inb) (fun _ => rfl)).squeeze S1024x256 squeezes_S1x1024x256_S1024x256).view.read (Elt F) (wv m c) := by
  subst hoff
  refine funext fun x => ?_
  have e : Shape.reshapeEquiv squeezes_S1x1024x256_S1024x256.numel_eq x = Fin.cons ⟨0, Nat.one_pos⟩ x := Shape.reshapeEquiv_cons_one _ x
  show wb m c _ = wb m c (wIdx c ((Rect.unit (s := S4x1024x256) ![s, 0, 0] S1x1024x256.size inb).emb (Shape.reshapeEquiv squeezes_S1x1024x256_S1024x256.numel_eq x)))
  rw [e]
  refine congrArg (wb m c) (funext fun a => ?_)
  fin_cases a
  · rfl
  · exact Fin.ext (by
      show 256 * colOf c s + 1 * (x 1).val = 256 * colOf c (s + 1 * 0) + (0 + 1 * (x 1).val)
      rw [Nat.mul_zero, Nat.add_zero, Nat.zero_add])

/-! ## The cells by an index, and what every step may use -/

abbrev CK : Type := Option (Bool × Fin 3)

def kcell : Dev nD × CK → GSem nD τ sig
  | (c, none) => barCell c
  | (c, some (false, k)) => sendCell c k
  | (c, some (true, k)) => recvCell c k

/-- Every cell's invariant, under the names `K`, and that it is at round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records (F := F) m K) := by unfold records; infer_instance

theorem inv_at (K : Dev nD × CK → ℕ) (ck : Dev nD × CK) : (records m K : sProp 𝕄) ⊢ cellInv ER (sched m) (K ck) (kcell ck) := by
  have h : (bigSep Finset.univ fun ck : Dev nD × CK => (cellInv ER (sched m) (K ck) (kcell ck) : sProp 𝕄)) ⊢ cellInv ER (sched m) (K ck) (kcell ck) :=
    bigSep_elim (Finset.mem_univ ck)
  unfold records
  iintro ⟨H, -⟩
  iapply h; iexact H
theorem reached_at (K : Dev nD × CK → ℕ) (ck : Dev nD × CK) : (records m K : sProp 𝕄) ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

/-- What core `c` owes, whatever it has waited on. -/
def ow (c : Dev nD) (O : CellTallies nD τ sig Unit) : sProp 𝕄 := iprop(∃ W, owes (c : Thread nD τ) O W)

abbrev 𝒱₀ : Variants := Variants.none

/-- The weakest precondition at core `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The local copies -/

/-- A local copy under way: the transfer, and the elements of the source's share it does not read. -/
def cp {s : Shape} (c : Dev nD) (src : Memref sig .tc .hbm s .f32) (dst : Memref sig .tc .vmem s .f32) (sm : DmaSem sig) (q : PosShare TreeShare)
    (fs : Buf (Elt F) (src.view.loc (c : Thread nD τ))) (ft : Buf (Elt F) (dst.view.loc (c : Thread nD τ))) : sProp 𝕄 :=
  iprop(Transfers.Flight EC (c : Thread nD τ) (.dma sm) () dst.view.dmaCredit
      iprop((dst.view.loc (c : Thread nD τ) ↦[dst.view.set]{fullShare} ft) ∗ (src.view.loc (c : Thread nD τ) ↦[src.view.set]{q} fs))
    ∗ (src.view.loc (c : Thread nD τ) ↦[Finset.univ \ src.view.set]{q} fs))

/-- A local copy is started on a share of its source and the elements of its destination. -/
theorem wp_copy {s : Shape} (c : Dev nD) (src : Memref sig .tc .hbm s .f32) (dst : Memref sig .tc .vmem s .f32) (sm : DmaSem sig) {q : PosShare TreeShare}
    {fs : Buf (Elt F) (src.view.loc (c : Thread nD τ))} {ft : Buf (Elt F) (dst.view.loc (c : Thread nD τ))}
    {hsrc : src.view.WordExact} {hdst : dst.view.WordExact} {hsem : DmaTarget.Typed (nD := nD) (τ := τ) (p := .tc) .hbm (.dma sm) (.here dst)}
    {α : Type} {Q : α → sProp 𝕄} {k : PUnit → Prog (TpuEff nD τ sig (Elt F) Λ₀ .tc) α}
    (h : src.view.read (Elt F) fs = dst.view.read (Elt F) ft) (hpos : 0 < dst.view.dmaCredit) :
    iprop((src.view.loc (c : Thread nD τ) ↦{q} fs) ∗ (∃ fd, dst.view.loc (c : Thread nD τ) ↦[dst.view.set]{fullShare} fd) ∗ semVal ((c : Thread nD τ), .dma sm) 0)
      ⊢ iprop((cp (F := F) c src dst sm q fs ft -∗ WP c (k ⟨⟩) Q)
          -∗ WP c (.op (.enqueueDma src (.here dst) (.dma sm) hsrc hdst hsem) k) Q) := by
  iintro ⟨Hs, ⟨%fd, Hd⟩, Hv⟩ Hk
  ihave ⟨Hs, Hrest⟩ := (pointsTo_split_subset (Finset.subset_univ src.view.set)).1 $$ Hs
  iapply (Transfers.wp_dmaLocal EC 𝒱₀ (c : Thread nD τ) none () dst.view.dmaCredit rfl hpos (Finset.Subset.refl _)) $$ [Hs Hd Hv]
  · isplitl [Hs]; · iexact Hs
    isplitl [Hd]; · iexact Hd
    iexact Hv
  iintro HF
  iapply Hk
  unfold cp
  isplitl [HF]
  · iapply (Transfers.Flight_mono EC (c : Thread nD τ) (sep_mono_left (Entails.of_eq (pointsTo_congr (write_eq_target dst.view fd ft _ h.symm))))) $$ HF
  iexact Hrest

/-- The wait for a local copy: the destination at its target contents, the source's share back. -/
theorem wp_copied {s : Shape} (c : Dev nD) (src : Memref sig .tc .hbm s .f32) (dst : Memref sig .tc .vmem s .f32) (sm : DmaSem sig) {q : PosShare TreeShare}
    {fs : Buf (Elt F) (src.view.loc (c : Thread nD τ))} {ft : Buf (Elt F) (dst.view.loc (c : Thread nD τ))}
    {s' : Shape} {e' : EltTy} {sp' : Space} {srcw : Memref sig .tc sp' s' e'} {hsrc : srcw.view.WordExact} {hdst : dst.view.WordExact}
    {α : Type} {Q : α → sProp 𝕄} {k : PUnit → Prog (TpuEff nD τ sig (Elt F) Λ₀ .tc) α} (hlow : sm.val < 11) (O : CellTallies nD τ sig Unit) (hO : Above 0 O) :
    iprop(cp (F := F) c src dst sm q fs ft ∗ ow c O ∗ levAts L lv)
      ⊢ iprop((((dst.view.loc (c : Thread nD τ) ↦[dst.view.set]{fullShare} ft) ∗ (src.view.loc (c : Thread nD τ) ↦{q} fs)
              ∗ semVal ((c : Thread nD τ), .dma sm) 0 ∗ ow c O) -∗ WP c (k ⟨⟩) Q)
          -∗ WP c (.op (.waitDma2 sm srcw dst hsrc hdst) k) Q) := by
  unfold cp ow
  iintro ⟨⟨HF, Hrest⟩, ⟨%W, HO⟩, Hlev⟩ Hk
  iapply (Transfers.wp_waitLocalO EC 𝒱₀ (c : Thread nD τ) none () rfl) $$ [HF HO Hlev]
  · isplitl [HF]; · iexact HF
    isplitl [HO]; · iexact HO
    iapply (mayWait_of_above c (.dma sm) O (by rw [lv_low c sm hlow]; exact hO)) $$ Hlev
  iintro ⟨⟨Hd, Hs⟩, Hv, HO⟩
  iapply Hk
  isplitl [Hd]; · iexact Hd
  isplitl [Hs Hrest]
  · iapply (pointsTo_split_subset (Finset.subset_univ src.view.set)).2
    isplitl [Hs] <;> iassumption
  isplitl [Hv]; · iexact Hv
  iexists _; iexact HO

/-! ## The barrier -/

/-- The signal to the device `k + 1` places after: its barrier's duty for going on from there to here, with the slot of
    this device's receive buffer that it is to fill. -/
theorem wp_signal_at (K : Dev nD × CK → ℕ) (c n : Dev nD) (k : Fin 3) (hn : n = adv k c) (a : ℤ) (ha : a = 1)
    (O' : CellTallies nD τ sig Unit) {α : Type} {Q : α → sProp 𝕄} {kk : PUnit → Prog (TpuEff nD τ sig (Elt F) Λ₀ .tc) α} :
    iprop(records m K ∗ ow c (O' + oBar c k) ∗ dutyTok ER (barCell (adv k c)) 0 k.rev ∗ (∃ f, rPts c k.rev f))
      ⊢ iprop((ow c O' -∗ WP c (kk ⟨⟩) Q) -∗ WP c (.op (.semSignal (n : Thread nD τ) barS a) kk) Q) := by
  subst hn; subst ha
  unfold ow oBar
  iintro ⟨#HR, ⟨%W, HO⟩, Ht, Hf⟩ Hk
  iapply (Rounds.wp_signal 𝒱₀ ER (sched m) (c : Thread nD τ) none (dst := (adv k c : Thread nD τ)) (κ := K (adv k c, none))
      (d := k.rev) (by rw [duties_bar]; exact Finset.mem_univ _) ((amount_bar m (adv k c) k.rev).trans (by decide)) () O' rfl)
    $$ [HO Ht Hf]
  · isplitr; · iapply (inv_at m K (adv k c, none)); iexact HR
    isplitl [HO]; · iexact HO
    isplitl [Ht]; · iexact Ht
    isplitl [Hf]
    · rw [payload_bar]; unfold barPay; rw [adv_rev_adv]
      isplitl [Hf]; · iexact Hf
      iapply (reached_at m K (c, some (true, k.rev))); iexact HR
    · iapply (reached_at m K (adv k c, none)); iexact HR
  iintro HO
  iapply Hk
  iexists _; iexact HO

/-- The wait for the three signals: the slot of each other device's receive buffer that this one fills, and the barrier
    cell closed. -/
theorem wp_barrier (K : Dev nD × CK → ℕ) (c : Dev nD) (a : ℤ) (ha : a = 3)
    {α : Type} {Q : α → sProp 𝕄} {kk : PUnit → Prog (TpuEff nD τ sig (Elt F) Λ₀ .tc) α} :
    iprop(records m K ∗ cred (tallyAt (barCell c) () 3) ∗ ow c (oR3 c) ∗ levAts L lv ∗ atPos ER (barCell c) 0 ∅ 0)
      ⊢ iprop(((ow c (oR3 c) ∗ semVal (barCell c) 0 ∗ (∃ f, rPts (adv 0 c) 0 f) ∗ (∃ f, rPts (adv 1 c) 1 f) ∗ (∃ f, rPts (adv 2 c) 2 f)) -∗ WP c (kk ⟨⟩) Q)
          -∗ WP c (.op (.semWait barS a) kk) Q) := by
  subst ha
  unfold ow
  iintro ⟨#HR, Hc, ⟨%W, HO⟩, Hlev, Hat⟩ Hk
  iapply (Rounds.wp_wait_rest_token 𝒱₀ ER (sched m) (c : Thread nD τ) none (κ := K (c, none))
      (wpE_semWait_eq 𝒱₀ (c : Thread nD τ) none Set.univ) (Set.mem_univ _) () (O := oR3 c) (W := W) (R := 0) (m := 0) (T := ∅)
      (by rw [expect_bar])) $$ [Hc HO Hlev Hat]
  · isplitr; · iapply (inv_at m K (c, none)); iexact HR
    isplitl [Hc]; · iexact Hc
    isplitl [HO]; · iexact HO
    isplitl [Hlev]; · iapply (mayWait_of_above c (.reg barS) (oR3 c) (above_oR3 c)) $$ Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  imod (Rounds.cell_close ER (sched m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  isplitl [H0]; · iexact H0
  isplitl [H1] <;> iassumption

/-! ## The transfers -/

/-- Slot `k`'s transfer to the device `k + 1` places after. -/
theorem wp_send_at (K : Dev nD × CK → ℕ) (c n : Dev nD) (k : Fin 3) (hn : n = adv k c) (O' : CellTallies nD τ sig Unit)
    {hsc : (rSlot k : Memref sig (Dev.tc n : Thread nD τ).2.kind .vmem S256x256 .bf16).view.ref.isScScratch = false}
    {hsrc : (sSlot k).view.WordExact} {hdst : (rSlot k).view.WordExact}
    {hsem : DmaTarget.Typed .vmem (.dma (recvS k)) (.remote (Dev.tc n : Thread nD τ) (rSlot k : Memref sig .tc .vmem S256x256 .bf16) (.dma (sendS k)) hsc)}
    {α : Type} {Q : α → sProp 𝕄} {kk : PUnit → Prog (TpuEff nD τ sig (Elt F) Λ₀ .tc) α} :
    iprop(records m K ∗ sPts c k (sv m c) ∗ (∃ f, rPts (adv k c) k f) ∗ ow c (O' + oRecv c k)
        ∗ dutyTok ER (sendCell c k) 0 0 ∗ dutyTok ER (recvCell (adv k c) k) 0 0)
      ⊢ iprop(((cred (tallyAt (sendCell c k) () N) ∗ ow c O') -∗ WP c (kk ⟨⟩) Q)
          -∗ WP c (.op (.enqueueDma (sSlot k) (.remote (Dev.tc n : Thread nD τ) (rSlot k) (.dma (sendS k)) hsc) (.dma (recvS k)) hsrc hdst hsem) kk) Q) := by
  subst hn
  unfold ow sPts rPts oRecv
  iintro ⟨#HR, Hs, ⟨%fn, Hd⟩, ⟨%W, HO⟩, HtS, HtV⟩ Hk
  iapply (Rounds.wp_send_pointsTo 𝒱₀ ER (sched m) (c : Thread nD τ) none (κ₁ := K (c, some (false, k))) (κ₂ := K (adv k c, some (true, k)))
    (r₁ := 0) (r₂ := 0) (d₁ := 0) (d₂ := 0) (fd := fn)
    (by rw [duties_send]; exact Finset.mem_singleton_self _) (by rw [duties_recv]; exact Finset.mem_singleton_self _)
    () () N rfl (amount_send m c k 0) (amount_recv m (adv k c) k 0) O' rfl (W := W)
    (by rw [payload_send]; unfold sendPay sPts; exact BI.Entails.refl _)
    (by rw [payload_recv]; unfold recvPay rPts
        exact Entails.of_eq (pointsTo_congr (write_eq_target (rSlot k).view fn (rv m (adv k c)) _ (read_rv m c k))))) $$ [Hs Hd HO HtS HtV]
  · isplitr; · iapply (inv_at m K (c, some (false, k))); iexact HR
    isplitr; · iapply (inv_at m K (adv k c, some (true, k))); iexact HR
    isplitl [Hs]; · iexact Hs
    isplitl [Hd]; · iexact Hd
    isplitl [HO]; · iexact HO
    isplitl [HtS]; · iexact HtS
    isplitr; · iapply (reached_at m K (c, some (false, k))); iexact HR
    isplitl [HtV]; · iexact HtV
    iapply (reached_at m K (adv k c, some (true, k))); iexact HR
  iintro ⟨Hc, HO⟩
  iapply Hk
  isplitl [Hc]; · iexact Hc
  iexists _; iexact HO

/-- The wait on receive cell `k`: slot `k` of the receive buffer with the block of the device `k + 1` places before, and
    the cell closed. -/
theorem wp_recv_at (K : Dev nD × CK → ℕ) (c : Dev nD) (k : Fin 3)
    {srcw : Memref sig .tc .vmem S256x256 .bf16} {hsrc : srcw.view.WordExact} {hdst : (rSlot k).view.WordExact}
    {α : Type} {Q : α → sProp 𝕄} {kk : PUnit → Prog (TpuEff nD τ sig (Elt F) Λ₀ .tc) α} :
    iprop(records m K ∗ cred (tallyAt (recvCell c k) () N) ∗ ow c 0 ∗ atPos ER (recvCell c k) 0 ∅ 0)
      ⊢ iprop(((ow c 0 ∗ semVal (recvCell c k) 0 ∗ rPts c k (rv m c)) -∗ WP c (kk ⟨⟩) Q)
          -∗ WP c (.op (.waitDma2 (recvS k) srcw (rSlot k) hsrc hdst) kk) Q) := by
  unfold ow
  iintro ⟨#HR, Hc, ⟨%W, HO⟩, Hat⟩ Hk
  iapply (Rounds.wp_wait_rest_token 𝒱₀ ER (sched m) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, some (true, k))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  imod (Rounds.cell_close ER (sched m) (Set.mem_univ (K (c, some (true, k)))) (fun h => h) (R := 0 + 1) (duties_later m (recvCell c k))) $$ [Hat] with Hz
  · isplitr; · iapply (inv_at m K (c, some (true, k))); iexact HR
    iexact Hat
  iapply Hk
  isplitl [HO]; · iexists _; iexact HO
  isplitl [Hz]; · iexact Hz
  unfold recvPay; iexact Hp

/-- The wait on send cell `k`: slot `k` of the send buffer back, and the cell closed. -/
theorem wp_sent_at (K : Dev nD × CK → ℕ) (c : Dev nD) (k : Fin 3)
    {srcw : Memref sig .tc .vmem S256x256 .bf16} {hsrc : srcw.view.WordExact} {hdst : (sSlot k).view.WordExact}
    {α : Type} {Q : α → sProp 𝕄} {kk : PUnit → Prog (TpuEff nD τ sig (Elt F) Λ₀ .tc) α} :
    iprop(records m K ∗ cred (tallyAt (sendCell c k) () N) ∗ ow c 0 ∗ atPos ER (sendCell c k) 0 ∅ 0)
      ⊢ iprop(((ow c 0 ∗ semVal (sendCell c k) 0 ∗ sPts c k (sv m c)) -∗ WP c (kk ⟨⟩) Q)
          -∗ WP c (.op (.waitDma2 (sendS k) srcw (sSlot k) hsrc hdst) kk) Q) := by
  unfold ow
  iintro ⟨#HR, Hc, ⟨%W, HO⟩, Hat⟩ Hk
  iapply (Rounds.wp_wait_rest_token 𝒱₀ ER (sched m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, some (false, k))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (sched m) (Set.mem_univ (K (c, some (false, k)))) (fun h => h) (R := 0 + 1) (duties_later m (sendCell c k))) $$ [Hat] with Hz
  · isplitr; · iapply (inv_at m K (c, some (false, k))); iexact HR
    iexact Hat
  iapply Hk
  isplitl [HO]; · iexists _; iexact HO
  isplitl [Hz]; · iexact Hz
  unfold sendPay; iexact Hp

/-- A slot's store and what it leaves: the block computed for it. -/
theorem wp_store_slot (c : Dev nD) (k : Fin 3) {w : (slotR k).shape.Idx → Elt F .bf16} (hw : w = pay m c k)
    {hx : (svM.access (slotR k) : View sig .tc _ _ _).Stores Finset.univ} {hm : (Finset.univ : Finset (slotR k).shape.Idx) = Finset.univ ∨ ∀ a, (slotR k).stride a = 1}
    {α : Type} {Q : α → sProp 𝕄} {kk : PUnit → Prog (TpuEff nD τ sig (Elt F) Λ₀ .tc) α} :
    (iprop(∃ f, sPts c k f) : sProp 𝕄)
      ⊢ iprop((sPts c k (sv m c) -∗ WP c (kk ⟨⟩) Q) -∗ WP c (.op (.store svM (slotR k) w Finset.univ hx hm) kk) Q) := by
  subst hw
  unfold sPts
  rw [sSlot_set]
  iintro ⟨%f, H⟩ Hk
  iapply (wp_store 𝒱₀ (c : Thread nD τ) none Set.univ (m := svM) (r := slotR k) (Mk := Finset.univ) (by rw [View.setOn_univ])) $$ H
  iintro H
  iapply Hk
  ihave H := (Entails.of_eq (pointsTo_congr (write_eq_target (svM.access (slotR k) : View sig .tc _ _ _) f (sv m c) _ (read_sv m c k)))) $$ H
  iexact H

/-- A load of a slot of the send buffer, whose value the body does not use. -/
theorem wp_load_slot (c : Dev nD) (k : Fin 3) {hl : svM.view.LoadsAt (slotR k).toLoadRect}
    {α : Type} {Q : α → sProp 𝕄} {kk : ((slotR k).shape.Idx → Elt F .bf16) → Prog (TpuEff nD τ sig (Elt F) Λ₀ .tc) α} :
    (iprop(∃ f, sPts c k f) : sProp 𝕄)
      ⊢ iprop((∀ w, (∃ f, sPts c k f) -∗ WP c (kk w) Q) -∗ WP c (.op (.load svM (slotR k).toLoadRect hl) kk) Q) := by
  unfold sPts
  rw [sSlot_set]
  iintro ⟨%f, H⟩ Hk
  iapply (wp_load_rect 𝒱₀ (c : Thread nD τ) none Set.univ (m := svM) (r := slotR k) (Finset.Subset.refl _)) $$ H
  iintro H
  iapply Hk
  iexists f; iexact H

end Cert.AllToAllProof

end
-- ==== Proof.Body.lean ====
/-
# The body, part by part

Each printed part of the kernel body, run on the resources it touches. The copies are named by their semaphores 0 .. 6:
the two halves of `x`, the two halves of the first column block of `w`, the three other column blocks.
-/
module

public import proofs.«01_k».proof.Proof.Steps

@[expose] public section

noncomputable section

namespace Cert.AllToAllProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sources and destinations of the local copies -/

abbrev sX0 : Memref sig .tc .hbm S256x512 .f32 := xM.slice xLo (fun _ => rfl)
abbrev sX1 : Memref sig .tc .hbm S256x512 .f32 := xM.slice xHi (fun _ => rfl)
abbrev sW0 (c : Dev nD) : Memref sig .tc .hbm S512x256 .f32 := wM.slice (Rect.unit (s := S1024x1024) (k0_off1 c) S512x256.size (k0_off1_inb c)) (fun _ => rfl)
abbrev sW1 (c : Dev nD) : Memref sig .tc .hbm S512x256 .f32 := wM.slice (Rect.unit (s := S1024x1024) (k0_off2 c) S512x256.size (k0_off2_inb c)) (fun _ => rfl)
abbrev sW2 (c : Dev nD) : Memref sig .tc .hbm S1024x256 .f32 := wM.slice (Rect.unit (s := S1024x1024) (k0_off3 c 1#32) S1024x256.size (k0_off3_inb c 0)) (fun _ => rfl)
abbrev sW3 (c : Dev nD) : Memref sig .tc .hbm S1024x256 .f32 := wM.slice (Rect.unit (s := S1024x1024) (k0_off3 c 2#32) S1024x256.size (k0_off3_inb c 1)) (fun _ => rfl)
abbrev sW4 (c : Dev nD) : Memref sig .tc .hbm S1024x256 .f32 := wM.slice (Rect.unit (s := S1024x1024) (k0_off3 c 3#32) S1024x256.size (k0_off3_inb c 2)) (fun _ => rfl)
abbrev dX0 : Memref sig .tc .vmem S256x512 .f32 := xvM.slice xLo (fun _ => rfl)
abbrev dX1 : Memref sig .tc .vmem S256x512 .f32 := xvM.slice xHi (fun _ => rfl)
abbrev dW0 : Memref sig .tc .vmem S512x256 .f32 := (wvM.slice w0Lo (fun _ => rfl)).squeeze S512x256 squeezes_S1x512x256_S512x256
abbrev dW1 : Memref sig .tc .vmem S512x256 .f32 := (wvM.slice w0Hi (fun _ => rfl)).squeeze S512x256 squeezes_S1x512x256_S512x256
abbrev dW2 : Memref sig .tc .vmem S1024x256 .f32 := (wvM.slice w1R (fun _ => rfl)).squeeze S1024x256 squeezes_S1x1024x256_S1024x256
abbrev dW3 : Memref sig .tc .vmem S1024x256 .f32 := (wvM.slice w2R (fun _ => rfl)).squeeze S1024x256 squeezes_S1x1024x256_S1024x256
abbrev dW4 : Memref sig .tc .vmem S1024x256 .f32 := (wvM.slice w3R (fun _ => rfl)).squeeze S1024x256 squeezes_S1x1024x256_S1024x256

/-- The elements of a destination, at contents `f`. -/
def dPts {s : Shape} (c : Dev nD) (d : Memref sig .tc .vmem s .f32) (f : Buf (Elt F) (d.view.loc (c : Thread nD τ))) : sProp 𝕄 :=
  d.view.loc (c : Thread nD τ) ↦[d.view.set]{fullShare} f
/-- A share of the whole `x` block, and of `w`. -/
def xTok (c : Dev nD) (q : PosShare TreeShare) : sProp 𝕄 := ((c : Thread nD τ).loc main_arg0) ↦{q} (xb m c)
def wTok (c : Dev nD) (q : PosShare TreeShare) : sProp 𝕄 := ((c : Thread nD τ).loc main_arg1) ↦{q} (wb m c)

def cX0 (c : Dev nD) (q : PosShare TreeShare) : sProp 𝕄 := cp (F := F) c sX0 dX0 (loadS 0) q (xb m c) (xb m c)
def cX1 (c : Dev nD) (q : PosShare TreeShare) : sProp 𝕄 := cp (F := F) c sX1 dX1 (loadS 1) q (xb m c) (xb m c)
def cW0 (c : Dev nD) (q : PosShare TreeShare) : sProp 𝕄 := cp (F := F) c (sW0 c) dW0 (loadS 2) q (wb m c) (wv m c)
def cW1 (c : Dev nD) (q : PosShare TreeShare) : sProp 𝕄 := cp (F := F) c (sW1 c) dW1 (loadS 3) q (wb m c) (wv m c)
def cW2 (c : Dev nD) (q : PosShare TreeShare) : sProp 𝕄 := cp (F := F) c (sW2 c) dW2 (loadS 4) q (wb m c) (wv m c)
def cW3 (c : Dev nD) (q : PosShare TreeShare) : sProp 𝕄 := cp (F := F) c (sW3 c) dW3 (loadS 5) q (wb m c) (wv m c)
def cW4 (c : Dev nD) (q : PosShare TreeShare) : sProp 𝕄 := cp (F := F) c (sW4 c) dW4 (loadS 6) q (wb m c) (wv m c)

/-- The receive buffer's slot `k`, as the body loads it once filled. -/
abbrev rdR (c : Dev nD) (k : Fin 3) : (slotR k).shape.Idx → Elt F .bf16 := (rvM : Memref sig .tc .vmem S3x256x256 .bf16).view.readAt (Elt F) (slotR k).toLoadRect (rv m c)

/-- The operand buffer of `x`, whole; the result's staging buffer, whole. -/
def xvPts (c : Dev nD) (f : Buf (Elt F) ((c : Thread nD τ).loc cc0_scratch0)) : sProp 𝕄 := ((c : Thread nD τ).loc cc0_scratch0) ↦{fullShare} f
def oPts (c : Dev nD) (f : Buf (Elt F) ((c : Thread nD τ).loc cc0_stg0_0)) : sProp 𝕄 := ((c : Thread nD τ).loc cc0_stg0_0) ↦{fullShare} f

/-- The result's buffer after the store of the device's own block, and after the store of each received block. -/
def oOwn (c : Dev nD) (f : Buf (Elt F) ((c : Thread nD τ).loc cc0_stg0_0)) : Buf (Elt F) ((c : Thread nD τ).loc cc0_stg0_0) :=
  (oM.access (Rect.unit (s := S1024x256) (k0_off4 c) S256x256.size (k0_off4_inb c)) : View sig .tc _ _ _).write (Elt F) f (k0_pay6 (rdX m c xAll) (rdW m c w3R)) Finset.univ
def oRcv0 (c : Dev nD) (f : Buf (Elt F) ((c : Thread nD τ).loc cc0_stg0_0)) : Buf (Elt F) ((c : Thread nD τ).loc cc0_stg0_0) :=
  (oM.access (Rect.unit (s := S1024x256) (k0_off5 c 0#32) S256x256.size (k0_off5_inb c 0)) : View sig .tc _ _ _).write (Elt F) f (k0_pay7 (rdR m c 0)) Finset.univ
def oRcv1 (c : Dev nD) (f : Buf (Elt F) ((c : Thread nD τ).loc cc0_stg0_0)) : Buf (Elt F) ((c : Thread nD τ).loc cc0_stg0_0) :=
  (oM.access (Rect.unit (s := S1024x256) (k0_off5 c 1#32) S256x256.size (k0_off5_inb c 1)) : View sig .tc _ _ _).write (Elt F) f (k0_pay8 (rdR m c 1)) Finset.univ
def oRcv2 (c : Dev nD) (f : Buf (Elt F) ((c : Thread nD τ).loc cc0_stg0_0)) : Buf (Elt F) ((c : Thread nD τ).loc cc0_stg0_0) :=
  (oM.access (Rect.unit (s := S1024x256) (k0_off5 c 2#32) S256x256.size (k0_off5_inb c 2)) : View sig .tc _ _ _).write (Elt F) f (k0_pay9 (rdR m c 2)) Finset.univ

/-! ## Returns, loads and stores -/

/-- A program that returns. -/
theorem WP_ret (c : Dev nD) {α : Type} {Q : α → sProp 𝕄} (a : α) : Q a ⊢ WP c (.ret a) Q := by
  iintro H
  rw [WP, wp_ret]; imodintro; iexact H

/-- A load of a filled piece of the weight buffer. -/
theorem wp_load_w (c : Dev nD) (r : Rect S4x1024x256) {s : Shape} (d : Memref sig .tc .vmem s .f32)
    (f : Buf (Elt F) (d.view.loc (c : Thread nD τ))) (hd : dPts c d f = (((wvM.access r : View sig .tc _ _ _).loc (c : Thread nD τ) ↦[(wvM.access r : View sig .tc _ _ _).set]{fullShare} (wv m c)) : sProp 𝕄))
    {hl : wvM.view.LoadsAt r.toLoadRect} {α : Type} {Q : α → sProp 𝕄}
    {kk : (r.shape.Idx → Elt F .f32) → Prog (TpuEff nD τ sig (Elt F) Λ₀ .tc) α} :
    (dPts c d f : sProp 𝕄) ⊢ iprop((dPts c d f -∗ WP c (kk (rdW m c r)) Q) -∗ WP c (.op (.load wvM r.toLoadRect hl) kk) Q) := by
  rw [hd]
  exact wp_load_rect 𝒱₀ (c : Thread nD τ) none Set.univ (m := wvM) (r := r) (Finset.Subset.refl _)

/-- A load of a filled half of the operand buffer of `x`. -/
theorem wp_load_x (c : Dev nD) (r : Rect S256x1024) {s : Shape} (d : Memref sig .tc .vmem s .f32)
    (f : Buf (Elt F) (d.view.loc (c : Thread nD τ))) (hd : dPts c d f = (((xvM.access r : View sig .tc _ _ _).loc (c : Thread nD τ) ↦[(xvM.access r : View sig .tc _ _ _).set]{fullShare} (xb m c)) : sProp 𝕄))
    {hl : xvM.view.LoadsAt r.toLoadRect} {α : Type} {Q : α → sProp 𝕄}
    {kk : (r.shape.Idx → Elt F .f32) → Prog (TpuEff nD τ sig (Elt F) Λ₀ .tc) α} :
    (dPts c d f : sProp 𝕄) ⊢ iprop((dPts c d f -∗ WP c (kk (rdX m c r)) Q) -∗ WP c (.op (.load xvM r.toLoadRect hl) kk) Q) := by
  rw [hd]
  exact wp_load_rect 𝒱₀ (c : Thread nD τ) none Set.univ (m := xvM) (r := r) (Finset.Subset.refl _)

/-- A load of a received slot. -/
theorem wp_load_rslot (c : Dev nD) (k : Fin 3) {hl : rvM.view.LoadsAt (slotR k).toLoadRect} {α : Type} {Q : α → sProp 𝕄}
    {kk : ((slotR k).shape.Idx → Elt F .bf16) → Prog (TpuEff nD τ sig (Elt F) Λ₀ .tc) α} :
    (rPts c k (rv m c) : sProp 𝕄) ⊢ iprop((rPts c k (rv m c) -∗ WP c (kk (rdR m c k)) Q) -∗ WP c (.op (.load rvM (slotR k).toLoadRect hl) kk) Q) := by
  unfold rPts
  rw [rSlot_set]
  exact wp_load_rect 𝒱₀ (c : Thread nD τ) none Set.univ (m := rvM) (r := slotR k) (Finset.Subset.refl _)

/-- A load of the operand buffer of `x`. -/
theorem wp_load_xv (c : Dev nD) (f : Buf (Elt F) ((c : Thread nD τ).loc cc0_scratch0)) (r : Rect S256x1024) {hl : xvM.view.LoadsAt r.toLoadRect} {α : Type} {Q : α → sProp 𝕄}
    {kk : (r.shape.Idx → Elt F .f32) → Prog (TpuEff nD τ sig (Elt F) Λ₀ .tc) α} :
    (xvPts c f : sProp 𝕄) ⊢ iprop((xvPts c f -∗ WP c (kk ((xvM : Memref sig .tc .vmem S256x1024 .f32).view.readAt (Elt F) r.toLoadRect f)) Q) -∗ WP c (.op (.load xvM r.toLoadRect hl) kk) Q) := by
  unfold xvPts
  exact wp_load 𝒱₀ (c : Thread nD τ) none Set.univ (m := xvM) (Finset.subset_univ _)

/-- A load of the result's buffer, and a store to it. -/
theorem wp_load_out (c : Dev nD) (f : Buf (Elt F) ((c : Thread nD τ).loc cc0_stg0_0)) (r : Rect S1024x256) {hl : oM.view.LoadsAt r.toLoadRect} {α : Type} {Q : α → sProp 𝕄}
    {kk : (r.shape.Idx → Elt F .f32) → Prog (TpuEff nD τ sig (Elt F) Λ₀ .tc) α} :
    (oPts c f : sProp 𝕄) ⊢ iprop((oPts c f -∗ WP c (kk ((oM : Memref sig .tc .vmem S1024x256 .f32).view.readAt (Elt F) r.toLoadRect f)) Q) -∗ WP c (.op (.load oM r.toLoadRect hl) kk) Q) := by
  unfold oPts
  exact wp_load 𝒱₀ (c : Thread nD τ) none Set.univ (m := oM) (Finset.subset_univ _)
theorem wp_store_out (c : Dev nD) (f : Buf (Elt F) ((c : Thread nD τ).loc cc0_stg0_0)) (r : Rect S1024x256) (w : r.shape.Idx → Elt F .f32)
    {hx : (oM.access r : View sig .tc _ _ _).Stores Finset.univ} {hm : (Finset.univ : Finset r.shape.Idx) = Finset.univ ∨ ∀ a, r.stride a = 1} {α : Type} {Q : α → sProp 𝕄}
    {kk : PUnit → Prog (TpuEff nD τ sig (Elt F) Λ₀ .tc) α} :
    (oPts c f : sProp 𝕄) ⊢ iprop((oPts c ((oM.access r : View sig .tc _ _ _).write (Elt F) f w Finset.univ) -∗ WP c (kk ⟨⟩) Q) -∗ WP c (.op (.store oM r w Finset.univ hx hm) kk) Q) := by
  unfold oPts
  exact wp_store 𝒱₀ (c : Thread nD τ) none Set.univ (m := oM) (r := r) (Mk := Finset.univ) (Finset.subset_univ _)

/-! ## The buffers in pieces -/

theorem dX0_set : dX0.view.set = xLo.set := View.set_slice_whole _ _
theorem dX1_set : dX1.view.set = xHi.set := View.set_slice_whole _ _
theorem dW0_set : dW0.view.set = w0Lo.set := (View.set_reshape _ _).trans (View.set_slice_whole _ _)
theorem dW1_set : dW1.view.set = w0Hi.set := (View.set_reshape _ _).trans (View.set_slice_whole _ _)
theorem dW2_set : dW2.view.set = w1R.set := (View.set_reshape _ _).trans (View.set_slice_whole _ _)
theorem dW3_set : dW3.view.set = w2R.set := (View.set_reshape _ _).trans (View.set_slice_whole _ _)
theorem dW4_set : dW4.view.set = w3R.set := (View.set_reshape _ _).trans (View.set_slice_whole _ _)

/-- The two column halves are the operand buffer of `x`. -/
theorem xv_pieces (c : Dev nD) (f : Buf (Elt F) ((c : Thread nD τ).loc cc0_scratch0)) : (xvPts c f : sProp 𝕄) ⊣⊢ iprop(dPts c dX0 f ∗ dPts c dX1 f) := by
  have hd : Disjoint xLo.set xHi.set := Finset.disjoint_left.mpr fun i h h' => by
    have h1 := (Rect.mem_set_unit.mp h) 1
    have h2 := (Rect.mem_set_unit.mp h') 1
    have e1 : (i 1).val < 0 + 512 := h1.2
    have e2 : 512 ≤ (i 1).val := h2.1
    omega
  have hu : xLo.set ∪ xHi.set = Finset.univ := Finset.eq_univ_iff_forall.mpr fun i => by
    have h0 : (i 0).val < 256 := (i 0).isLt
    have h1 : (i 1).val < 1024 := (i 1).isLt
    rw [Finset.mem_union, Rect.mem_set_unit, Rect.mem_set_unit]
    by_cases h : (i 1).val < 512
    · exact Or.inl fun a => by
        fin_cases a
        · exact ⟨Nat.zero_le _, by show (i 0).val < 0 + 256; omega⟩
        · exact ⟨Nat.zero_le _, by show (i 1).val < 0 + 512; omega⟩
    · exact Or.inr fun a => by
        fin_cases a
        · exact ⟨Nat.zero_le _, by show (i 0).val < 0 + 256; omega⟩
        · exact ⟨by show 512 ≤ (i 1).val; omega, by show (i 1).val < 512 + 512; omega⟩
  unfold xvPts dPts
  rw [dX0_set, dX1_set, ← hu]
  exact pointsTo_union hd

/-- The five pieces of the weight buffer. -/
def wPiece : Fin 5 → Rect S4x1024x256
  | 0 => w0Lo
  | 1 => w0Hi
  | 2 => w1R
  | 3 => w2R
  | 4 => w3R

/-- The slot and the half of an index decide the piece it lies in. -/
theorem mem_wPiece (p : Fin 5) (i : S4x1024x256.Idx) :
    i ∈ (wPiece p).set ↔ (match p with
      | 0 => (i 0).val = 0 ∧ (i 1).val < 512
      | 1 => (i 0).val = 0 ∧ 512 ≤ (i 1).val
      | 2 => (i 0).val = 1
      | 3 => (i 0).val = 2
      | 4 => (i 0).val = 3) := by
  have h1 : (i 1).val < 1024 := (i 1).isLt
  have h2 : (i 2).val < 256 := (i 2).isLt
  have key : ∀ (s r n : ℕ) (inb : ∀ a, (![s, r, 0] : Fin 3 → ℕ) a + (![1, n, 256] : Fin 3 → ℕ) a ≤ S4x1024x256.size a),
      i ∈ (Rect.unit (s := S4x1024x256) ![s, r, 0] ![1, n, 256] inb).set ↔ ((s ≤ (i 0).val ∧ (i 0).val < s + 1) ∧ (r ≤ (i 1).val ∧ (i 1).val < r + n)) := fun s r n inb => by
    rw [Rect.mem_set_unit]
    constructor
    · intro h
      exact ⟨h 0, h 1⟩
    · rintro ⟨h, h'⟩ a
      fin_cases a
      · exact h
      · exact h'
      · exact ⟨Nat.zero_le _, by show (i 2).val < 0 + 256; omega⟩
  fin_cases p
  · exact (key 0 0 512 (by decide)).trans (by show _ ↔ ((i 0).val = 0 ∧ (i 1).val < 512); omega)
  · exact (key 0 512 512 (by decide)).trans (by show _ ↔ ((i 0).val = 0 ∧ 512 ≤ (i 1).val); omega)
  · exact (key 1 0 1024 (by decide)).trans (by show _ ↔ ((i 0).val = 1); omega)
  · exact (key 2 0 1024 (by decide)).trans (by show _ ↔ ((i 0).val = 2); omega)
  · exact (key 3 0 1024 (by decide)).trans (by show _ ↔ ((i 0).val = 3); omega)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- They are the weight buffer. -/
theorem wv_pieces (c : Dev nD) (f : Buf (Elt F) ((c : Thread nD τ).loc cc0_scratch1)) :
    ((((c : Thread nD τ).loc cc0_scratch1) ↦{fullShare} f) : sProp 𝕄)
      = iprop(dPts c dW0 f ∗ dPts c dW1 f ∗ dPts c dW2 f ∗ dPts c dW3 f ∗ dPts c dW4 f) := by
  have hd : ∀ p ∈ (Finset.univ : Finset (Fin 5)), ∀ p' ∈ (Finset.univ : Finset (Fin 5)), p ≠ p' → Disjoint (wPiece p).set (wPiece p').set := fun p _ p' _ hne =>
    Finset.disjoint_left.mpr fun i h h' => by
      rw [mem_wPiece] at h h'
      fin_cases p <;> fin_cases p' <;> first | exact hne rfl | (simp only at h h'; omega)
  have hu : (Finset.univ : Finset (Fin 5)).biUnion (fun p => (wPiece p).set) = Finset.univ := Finset.eq_univ_iff_forall.mpr fun i => by
    have h0 : (i 0).val < 4 := (i 0).isLt
    rw [Finset.mem_biUnion]
    by_cases h : (i 0).val = 0
    · by_cases h' : (i 1).val < 512
      · exact ⟨0, Finset.mem_univ _, (mem_wPiece 0 i).mpr ⟨h, h'⟩⟩
      · exact ⟨1, Finset.mem_univ _, (mem_wPiece 1 i).mpr ⟨h, not_lt.mp h'⟩⟩
    · by_cases h1 : (i 0).val = 1
      · exact ⟨2, Finset.mem_univ _, (mem_wPiece 2 i).mpr h1⟩
      · by_cases h2 : (i 0).val = 2
        · exact ⟨3, Finset.mem_univ _, (mem_wPiece 3 i).mpr h2⟩
        · exact ⟨4, Finset.mem_univ _, (mem_wPiece 4 i).mpr (by show (i 0).val = 3; omega)⟩
  have h := pointsTo_biUnion (Ix := Unit) (Name := ℕ) (U := UU) (Lvl := ℕ) (q := fullShare) (f := f) (ℓ := (c : Thread nD τ).loc cc0_scratch1)
    (Finset.univ : Finset (Fin 5)) (fun p => (wPiece p).set) hd
  rw [hu, bigSep_five] at h
  unfold dPts
  rw [dW0_set, dW1_set, dW2_set, dW3_set, dW4_set]
  exact h

/-- An index of a three-slot buffer lies in a slot if its first coordinate is the slot's number. -/
theorem mem_slotR (k : Fin 3) (i : S3x256x256.Idx) : i ∈ (slotR k).set ↔ (i 0).val = k.val := by
  have h1 : (i 1).val < 256 := (i 1).isLt
  have h2 : (i 2).val < 256 := (i 2).isLt
  rw [Rect.mem_set_unit]
  constructor
  · intro h
    have h0 : k.val ≤ (i 0).val ∧ (i 0).val < k.val + 1 := h 0
    omega
  · intro h a
    fin_cases a
    · show k.val ≤ (i 0).val ∧ (i 0).val < k.val + 1; omega
    · exact ⟨Nat.zero_le _, by show (i 1).val < 0 + 256; omega⟩
    · exact ⟨Nat.zero_le _, by show (i 2).val < 0 + 256; omega⟩

theorem slots_disjoint : ∀ k ∈ (Finset.univ : Finset (Fin 3)), ∀ k' ∈ (Finset.univ : Finset (Fin 3)), k ≠ k' → Disjoint (slotR k).set (slotR k').set :=
  fun k _ k' _ hne => Finset.disjoint_left.mpr fun i h h' => hne (Fin.ext (((mem_slotR k i).mp h).symm.trans ((mem_slotR k' i).mp h')))
theorem slots_cover : (Finset.univ : Finset (Fin 3)).biUnion (fun k => (slotR k).set) = Finset.univ := Finset.eq_univ_iff_forall.mpr fun i =>
  Finset.mem_biUnion.mpr ⟨i 0, Finset.mem_univ _, (mem_slotR (i 0) i).mpr rfl⟩

/-- The three slots of the send buffer, and of the receive buffer. -/
theorem sv_pieces (c : Dev nD) (f : Buf (Elt F) ((c : Thread nD τ).loc cc0_scratch2)) :
    ((((c : Thread nD τ).loc cc0_scratch2) ↦{fullShare} f) : sProp 𝕄) = iprop(sPts c 0 f ∗ sPts c 1 f ∗ sPts c 2 f) := by
  have h := pointsTo_biUnion (Ix := Unit) (Name := ℕ) (U := UU) (Lvl := ℕ) (q := fullShare) (f := f) (ℓ := (c : Thread nD τ).loc cc0_scratch2)
    (Finset.univ : Finset (Fin 3)) (fun k => (slotR k).set) slots_disjoint
  rw [slots_cover, bigSep_three] at h
  unfold sPts
  rw [sSlot_set, sSlot_set, sSlot_set, View.set_slice_whole, View.set_slice_whole, View.set_slice_whole]
  exact h
theorem rv_pieces (c : Dev nD) (f : Buf (Elt F) ((c : Thread nD τ).loc cc0_scratch3)) :
    ((((c : Thread nD τ).loc cc0_scratch3) ↦{fullShare} f) : sProp 𝕄) = iprop(rPts c 0 f ∗ rPts c 1 f ∗ rPts c 2 f) := by
  have h := pointsTo_biUnion (Ix := Unit) (Name := ℕ) (U := UU) (Lvl := ℕ) (q := fullShare) (f := f) (ℓ := (c : Thread nD τ).loc cc0_scratch3)
    (Finset.univ : Finset (Fin 3)) (fun k => (slotR k).set) slots_disjoint
  rw [slots_cover, bigSep_three] at h
  unfold rPts
  rw [rSlot_set, rSlot_set, rSlot_set, View.set_slice_whole, View.set_slice_whole, View.set_slice_whole]
  exact h

/-! ## The parts -/

/-- The copies of the two halves of `x` and of the upper half of the first column block of `w` start. -/
theorem part1 (c : Dev nD) (q0 q1 q2 : PosShare TreeShare) (Kt : (Σ' (d0 : Dev nD), BitVec 32) → sProp 𝕄) :
    iprop((xTok m c q0 ∗ xTok m c q1 ∗ wTok m c q2 ∗ (∃ f, dPts c dX0 f) ∗ (∃ f, dPts c dX1 f) ∗ (∃ f, dPts c dW0 f)
        ∗ semVal (loadCell c 0) 0 ∗ semVal (loadCell c 1) 0 ∗ semVal (loadCell c 2) 0)
      ∗ (∀ v2, (cX0 m c q0 ∗ cX1 m c q1 ∗ cW0 m c q2) -∗ Kt ⟨c, v2⟩))
      ⊢ WP c (k0_part1 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [k0_part1_eq_skeleton]; unfold k0_part1_skel
  simp only [Prog.lift, Prog.bind_op, Prog.bind_ret, Prog.pure_eq_ret, wp_deviceId]
  unfold dPts xTok wTok cX0 cX1 cW0
  iintro ⟨⟨Hx0, Hx1, Hw, Hd0, Hd1, Hd2, Hv0, Hv1, Hv2⟩, Hk⟩
  iapply (wp_copy c sX0 dX0 (loadS 0) (ft := xb m c) rfl (View.dmaCredit_pos _ (by decide))) $$ [Hx0 Hd0 Hv0]
  · isplitl [Hx0]; · iexact Hx0
    isplitl [Hd0] <;> iassumption
  iintro Hc0
  iapply (wp_copy c (sW0 c) dW0 (loadS 2) (ft := wv m c) (read_w512 m c 0 0 _ (off1_eq c) _ _) (View.dmaCredit_pos _ (by decide))) $$ [Hw Hd2 Hv2]
  · isplitl [Hw]; · iexact Hw
    isplitl [Hd2] <;> iassumption
  iintro Hc2
  iapply (wp_copy c sX1 dX1 (loadS 1) (ft := xb m c) rfl (View.dmaCredit_pos _ (by decide))) $$ [Hx1 Hd1 Hv1]
  · isplitl [Hx1]; · iexact Hx1
    isplitl [Hd1] <;> iassumption
  iintro Hc1
  iapply (WP_ret c)
  iapply Hk
  isplitl [Hc0]; · iexact Hc0
  isplitl [Hc1] <;> iassumption

/-- The copies of the lower half and of the second column block start. -/
theorem part2 (c : Dev nD) (v2 : BitVec 32) (q3 q4 : PosShare TreeShare) (Kt : (Σ' (v55 : BitVec 32) (v56 : BitVec 32) (v57 : BitVec 1), BitVec 1) → sProp 𝕄) :
    iprop((wTok m c q3 ∗ wTok m c q4 ∗ (∃ f, dPts c dW1 f) ∗ (∃ f, dPts c dW2 f) ∗ semVal (loadCell c 3) 0 ∗ semVal (loadCell c 4) 0)
      ∗ (∀ v, (cW1 m c q3 ∗ cW2 m c q4) -∗ Kt v))
      ⊢ WP c (k0_part2 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2) Kt := by
  simp only [k0_part2_eq_skeleton]; unfold k0_part2_skel
  simp only [Prog.lift, Prog.bind_op, Prog.bind_ret, Prog.pure_eq_ret]
  unfold dPts wTok cW1 cW2
  iintro ⟨⟨Hw3, Hw4, Hd3, Hd4, Hv3, Hv4⟩, Hk⟩
  iapply (wp_copy c (sW1 c) dW1 (loadS 3) (ft := wv m c) (read_w512 m c 0 512 _ (off2_eq c) _ _) (View.dmaCredit_pos _ (by decide))) $$ [Hw3 Hd3 Hv3]
  · isplitl [Hw3]; · iexact Hw3
    isplitl [Hd3] <;> iassumption
  iintro Hc3
  iapply (wp_copy c (sW2 c) dW2 (loadS 4) (ft := wv m c) (read_w1024 m c 1 _ (off3_1 c) _ _) (View.dmaCredit_pos _ (by decide))) $$ [Hw4 Hd4 Hv4]
  · isplitl [Hw4]; · iexact Hw4
    isplitl [Hd4] <;> iassumption
  iintro Hc4
  iapply (WP_ret c)
  iapply Hk
  isplitl [Hc3] <;> iassumption

/-- The copies of the third and of the device's own column block start. -/
theorem part3 (c : Dev nD) (v2 v55 v56 : BitVec 32) (v57 v60 : BitVec 1) (q5 q6 : PosShare TreeShare)
    (Kt : (Σ' (v88 : Sems sig S_) (v91 : BitVec 32) (v92 : BitVec 32), BitVec 1) → sProp 𝕄) :
    iprop((wTok m c q5 ∗ wTok m c q6 ∗ (∃ f, dPts c dW3 f) ∗ (∃ f, dPts c dW4 f) ∗ semVal (loadCell c 5) 0 ∗ semVal (loadCell c 6) 0)
      ∗ (∀ v, (cW3 m c q5 ∗ cW4 m c q6) -∗ Kt ⟨SemArray.scalar (sig.barrier 0 rfl), v⟩))
      ⊢ WP c (k0_part3 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 v55 v56 v57 v60) Kt := by
  simp only [k0_part3_eq_skeleton]; unfold k0_part3_skel
  simp only [Prog.lift, Prog.bind_op, Prog.bind_ret, Prog.pure_eq_ret]
  unfold dPts wTok cW3 cW4
  iintro ⟨⟨Hw3, Hw4, Hd3, Hd4, Hv3, Hv4⟩, Hk⟩
  iapply (wp_copy c (sW3 c) dW3 (loadS 5) (ft := wv m c) (read_w1024 m c 2 _ (off3_2 c) _ _) (View.dmaCredit_pos _ (by decide))) $$ [Hw3 Hd3 Hv3]
  · isplitl [Hw3]; · iexact Hw3
    isplitl [Hd3] <;> iassumption
  iintro Hc3
  iapply (wp_copy c (sW4 c) dW4 (loadS 6) (ft := wv m c) (read_w1024 m c 3 _ (off3_3 c) _ _) (View.dmaCredit_pos _ (by decide))) $$ [Hw4 Hd4 Hv4]
  · isplitl [Hw4]; · iexact Hw4
    isplitl [Hd4] <;> iassumption
  iintro Hc4
  iapply (WP_ret c)
  iapply Hk
  isplitl [Hc3] <;> iassumption

variable (K : Dev nD × CK → ℕ)

/-- The signals to the first two other devices. -/
theorem part4 (c : Dev nD) (v2 v91 v92 : BitVec 32) (v93 : BitVec 1) (Kt : (Σ' (v126 : BitVec 32), BitVec 32) → sProp 𝕄) :
    iprop((records m K ∗ ow c (owed0 c) ∗ dutyTok ER (barCell (adv 0 c)) 0 2 ∗ dutyTok ER (barCell (adv 1 c)) 0 1
        ∗ (∃ f, rPts c 2 f) ∗ (∃ f, rPts c 1 f))
      ∗ (∀ v, ow c (oB1 c) -∗ Kt v))
      ⊢ WP c (k0_part4 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 (SemArray.scalar (sig.barrier 0 rfl)) v91 v92 v93) Kt := by
  simp only [k0_part4_eq_skeleton]; unfold k0_part4_skel
  simp only [semSignalWord, Prog.lift, Prog.bind_op, Prog.bind_ret, Prog.pure_eq_ret]
  iintro ⟨⟨#HR, HO, Ht0, Ht1, Hr2, Hr1⟩, Hk⟩
  iapply (wp_signal_at m K c _ 0 (dev1_eq c) _ (by decide) (oB2 c)) $$ [HO Ht0 Hr2]
  · isplitr; · iexact HR
    isplitl [HO]; · iexact HO
    isplitl [Ht0]; · iexact Ht0
    iexact Hr2
  iintro HO
  iapply (wp_signal_at m K c _ 1 (dev2_eq c) _ (by decide) (oB1 c)) $$ [HO Ht1 Hr1]
  · isplitr; · iexact HR
    isplitl [HO]; · iexact HO
    isplitl [Ht1]; · iexact Ht1
    iexact Hr1
  iintro HO
  iapply (WP_ret c)
  iapply Hk
  iexact HO

/-- The signal to the third other device, the waits for the first halves, and their loads. -/
theorem part5 (c : Dev nD) (v2 v126 c0 : BitVec 32) (q0 q2 : PosShare TreeShare) (Kt : (Σ' (v139 : BitVec 32), FVec F S256x256 .f32) → sProp 𝕄) :
    iprop((records m K ∗ levAts L lv ∗ ow c (oB1 c) ∗ dutyTok ER (barCell (adv 2 c)) 0 0 ∗ (∃ f, rPts c 0 f) ∗ cX0 m c q0 ∗ cW0 m c q2)
      ∗ (∀ v, (ow c (oR3 c) ∗ dPts c dX0 (xb m c) ∗ dPts c dW0 (wv m c) ∗ xTok m c q0 ∗ wTok m c q2 ∗ semVal (loadCell c 0) 0 ∗ semVal (loadCell c 2) 0)
          -∗ Kt ⟨v, k0_pay1 (rdX m c xLo) (rdW m c w0Lo)⟩))
      ⊢ WP c (k0_part5 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 (SemArray.scalar (sig.barrier 0 rfl)) v126 c0) Kt := by
  simp only [k0_part5_eq_skeleton]; unfold k0_part5_skel
  simp only [semSignalWord, Prog.lift, Prog.bind_op, Prog.bind_ret, Prog.pure_eq_ret]
  unfold cX0 cW0
  iintro ⟨⟨#HR, #Hlev, HO, Ht2, Hr0, Hc0, Hc2⟩, Hk⟩
  iapply (wp_signal_at m K c _ 2 (dev3_eq c) _ (by decide) (oR3 c)) $$ [HO Ht2 Hr0]
  · isplitr; · iexact HR
    isplitl [HO]; · iexact HO
    isplitl [Ht2]; · iexact Ht2
    iexact Hr0
  iintro HO
  iapply (wp_copied c sX0 dX0 (loadS 0) (by decide) (oR3 c) (above_mono (by decide) (above_oR3 c))) $$ [HO Hc0]
  · isplitl [Hc0]; · iexact Hc0
    isplitl [HO]; · iexact HO
    iexact Hlev
  iintro ⟨Hd0, Hx, Hv0, HO⟩
  iapply (wp_copied c (sW0 c) dW0 (loadS 2) (by decide) (oR3 c) (above_mono (by decide) (above_oR3 c))) $$ [HO Hc2]
  · isplitl [Hc2]; · iexact Hc2
    isplitl [HO]; · iexact HO
    iexact Hlev
  iintro ⟨Hd2, Hw, Hv2, HO⟩
  iapply (wp_load_x m c xLo dX0 (xb m c) (by unfold dPts; rw [dX0_set])) $$ [Hd0]
  · unfold dPts; iexact Hd0
  iintro Hd0
  iapply (wp_load_w m c w0Lo dW0 (wv m c) (by unfold dPts; rw [dW0_set, View.set_slice_whole])) $$ [Hd2]
  · unfold dPts; iexact Hd2
  iintro Hd2
  iapply (WP_ret c)
  iapply Hk
  isplitl [HO]; · iexact HO
  isplitl [Hd0]; · iexact Hd0
  isplitl [Hd2]; · iexact Hd2
  isplitl [Hx]; · unfold xTok; iexact Hx
  isplitl [Hw]; · unfold wTok; iexact Hw
  isplitl [Hv0] <;> iassumption

/-- The waits for the second halves, the first block into slot 0, the barrier wait, slot 0's transfer. -/
theorem part6 (c : Dev nD) (v139 : BitVec 32) (q1 q3 : PosShare TreeShare) (Kt : BitVec 32 → sProp 𝕄) :
    iprop((records m K ∗ levAts L lv ∗ ow c (oR3 c) ∗ cX1 m c q1 ∗ cW1 m c q3 ∗ (∃ f, sPts c 0 f)
        ∗ cred (tallyAt (barCell c) () 3) ∗ atPos ER (barCell c) 0 ∅ 0
        ∗ dutyTok ER (sendCell c 0) 0 0 ∗ dutyTok ER (recvCell (adv 0 c) 0) 0 0)
      ∗ (∀ v, (ow c (oR2 c) ∗ dPts c dX1 (xb m c) ∗ dPts c dW1 (wv m c) ∗ xTok m c q1 ∗ wTok m c q3 ∗ semVal (loadCell c 1) 0 ∗ semVal (loadCell c 3) 0
            ∗ semVal (barCell c) 0 ∗ (∃ f, rPts (adv 1 c) 1 f) ∗ (∃ f, rPts (adv 2 c) 2 f) ∗ cred (tallyAt (sendCell c 0) () N)) -∗ Kt v))
      ⊢ WP c (k0_part6 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c (SemArray.scalar (sig.barrier 0 rfl)) v139 (k0_pay1 (rdX m c xLo) (rdW m c w0Lo))) Kt := by
  simp only [k0_part6_eq_skeleton]; unfold k0_part6_skel
  simp only [semWaitWord, Prog.lift, Prog.bind_op, Prog.bind_ret, Prog.pure_eq_ret]
  unfold cX1 cW1
  iintro ⟨⟨#HR, #Hlev, HO, Hc1, Hc3, Hs, HcB, HatB, HtS, HtV⟩, Hk⟩
  iapply (wp_copied c sX1 dX1 (loadS 1) (by decide) (oR3 c) (above_mono (by decide) (above_oR3 c))) $$ [HO Hc1]
  · isplitl [Hc1]; · iexact Hc1
    isplitl [HO]; · iexact HO
    iexact Hlev
  iintro ⟨Hd1, Hx, Hv1, HO⟩
  iapply (wp_copied c (sW1 c) dW1 (loadS 3) (by decide) (oR3 c) (above_mono (by decide) (above_oR3 c))) $$ [HO Hc3]
  · isplitl [Hc3]; · iexact Hc3
    isplitl [HO]; · iexact HO
    iexact Hlev
  iintro ⟨Hd3, Hw, Hv3, HO⟩
  iapply (wp_load_x m c xHi dX1 (xb m c) (by unfold dPts; rw [dX1_set])) $$ [Hd1]
  · unfold dPts; iexact Hd1
  iintro Hd1
  iapply (wp_load_w m c w0Hi dW1 (wv m c) (by unfold dPts; rw [dW1_set, View.set_slice_whole])) $$ [Hd3]
  · unfold dPts; iexact Hd3
  iintro Hd3
  iapply (wp_load_slot c 0) $$ Hs; iintro %w0 Hs
  iapply (wp_store_slot m c 0 rfl) $$ Hs; iintro Hs
  iapply (wp_barrier m K c _ (by decide)) $$ [HcB HO HatB]
  · isplitr; · iexact HR
    isplitl [HcB]; · iexact HcB
    isplitl [HO]; · iexact HO
    isplitr; · iexact Hlev
    iexact HatB
  iintro ⟨HO, HzB, Hn0, Hn1, Hn2⟩
  iapply (wp_send_at m K c _ 0 (dev4_eq c) (oR2 c)) $$ [Hs Hn0 HO HtS HtV]
  · isplitr; · iexact HR
    isplitl [Hs]; · iexact Hs
    isplitl [Hn0]; · iexact Hn0
    isplitl [HO]; · iexact HO
    isplitl [HtS] <;> iassumption
  iintro ⟨HcS, HO⟩
  iapply (WP_ret c)
  iapply Hk
  isplitl [HO]; · iexact HO
  isplitl [Hd1]; · iexact Hd1
  isplitl [Hd3]; · iexact Hd3
  isplitl [Hx]; · unfold xTok; iexact Hx
  isplitl [Hw]; · unfold wTok; iexact Hw
  isplitl [Hv1]; · iexact Hv1
  isplitl [Hv3]; · iexact Hv3
  isplitl [HzB]; · iexact HzB
  isplitl [Hn1]; · iexact Hn1
  isplitl [Hn2] <;> iassumption

/-- The second block into slot 1. -/
theorem part7 (c : Dev nD) (v2 c1 : BitVec 32) (q4 : PosShare TreeShare) (Kt : BitVec 32 → sProp 𝕄) :
    iprop((levAts L lv ∗ ow c (oR2 c) ∗ xvPts c (xb m c) ∗ cW2 m c q4 ∗ (∃ f, sPts c 1 f))
      ∗ (∀ v, (ow c (oR2 c) ∗ xvPts c (xb m c) ∗ dPts c dW2 (wv m c) ∗ wTok m c q4 ∗ semVal (loadCell c 4) 0 ∗ sPts c 1 (sv m c)) -∗ Kt v))
      ⊢ WP c (k0_part7 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 c1) Kt := by
  simp only [k0_part7_eq_skeleton]; unfold k0_part7_skel
  simp only [Prog.lift, Prog.bind_op, Prog.bind_ret, Prog.pure_eq_ret]
  unfold cW2
  iintro ⟨⟨#Hlev, HO, Hx, Hc4, Hs⟩, Hk⟩
  iapply (wp_copied c (sW2 c) dW2 (loadS 4) (by decide) (oR2 c) (above_mono (by decide) (above_oR2 c))) $$ [HO Hc4]
  · isplitl [Hc4]; · iexact Hc4
    isplitl [HO]; · iexact HO
    iexact Hlev
  iintro ⟨Hd4, Hw, Hv4, HO⟩
  iapply (wp_load_xv c (xb m c) xAll) $$ Hx; iintro Hx
  iapply (wp_load_w m c w1R dW2 (wv m c) (by unfold dPts; rw [dW2_set, View.set_slice_whole])) $$ [Hd4]
  · unfold dPts; iexact Hd4
  iintro Hd4
  iapply (wp_load_slot c 1) $$ Hs; iintro %w0 Hs
  iapply (wp_store_slot m c 1 rfl) $$ Hs; iintro Hs
  iapply (WP_ret c)
  iapply Hk
  isplitl [HO]; · iexact HO
  isplitl [Hx]; · iexact Hx
  isplitl [Hd4]; · iexact Hd4
  isplitl [Hw]; · unfold wTok; iexact Hw
  isplitl [Hv4] <;> iassumption

/-- Slot 1's transfer, and the third product. -/
theorem part8 (c : Dev nD) (v2 : BitVec 32) (q5 : PosShare TreeShare) (Kt : (Σ' (v231 : BitVec 32), FVec F S256x256 .bf16) → sProp 𝕄) :
    iprop((records m K ∗ levAts L lv ∗ ow c (oR2 c) ∗ sPts c 1 (sv m c) ∗ (∃ f, rPts (adv 1 c) 1 f)
        ∗ dutyTok ER (sendCell c 1) 0 0 ∗ dutyTok ER (recvCell (adv 1 c) 1) 0 0
        ∗ xvPts c (xb m c) ∗ cW3 m c q5 ∗ (∃ f, sPts c 2 f))
      ∗ (∀ v, (ow c (oR1 c) ∗ cred (tallyAt (sendCell c 1) () N) ∗ xvPts c (xb m c) ∗ dPts c dW3 (wv m c) ∗ wTok m c q5 ∗ semVal (loadCell c 5) 0
            ∗ (∃ f, sPts c 2 f)) -∗ Kt ⟨v, k0_pay4 (rdX m c xAll) (rdW m c w2R)⟩))
      ⊢ WP c (k0_part8 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2) Kt := by
  simp only [k0_part8_eq_skeleton]; unfold k0_part8_skel
  simp only [Prog.lift, Prog.bind_op, Prog.bind_ret, Prog.pure_eq_ret]
  unfold cW3
  iintro ⟨⟨#HR, #Hlev, HO, Hs1, Hn1, HtS, HtV, Hx, Hc5, Hs2⟩, Hk⟩
  iapply (wp_send_at m K c _ 1 (dev5_eq c) (oR1 c)) $$ [Hs1 Hn1 HO HtS HtV]
  · isplitr; · iexact HR
    isplitl [Hs1]; · iexact Hs1
    isplitl [Hn1]; · iexact Hn1
    isplitl [HO]; · iexact HO
    isplitl [HtS] <;> iassumption
  iintro ⟨HcS, HO⟩
  iapply (wp_copied c (sW3 c) dW3 (loadS 5) (by decide) (oR1 c) (above_mono (by decide) (above_oR1 c))) $$ [HO Hc5]
  · isplitl [Hc5]; · iexact Hc5
    isplitl [HO]; · iexact HO
    iexact Hlev
  iintro ⟨Hd5, Hw, Hv5, HO⟩
  iapply (wp_load_xv c (xb m c) xAll) $$ Hx; iintro Hx
  iapply (wp_load_w m c w2R dW3 (wv m c) (by unfold dPts; rw [dW3_set, View.set_slice_whole])) $$ [Hd5]
  · unfold dPts; iexact Hd5
  iintro Hd5
  iapply (wp_load_slot c 2) $$ Hs2; iintro %w0 Hs2
  iapply (WP_ret c)
  iapply Hk
  isplitl [HO]; · iexact HO
  isplitl [HcS]; · iexact HcS
  isplitl [Hx]; · iexact Hx
  isplitl [Hd5]; · iexact Hd5
  isplitl [Hw]; · unfold wTok; iexact Hw
  isplitl [Hv5] <;> iassumption

/-- The third block into slot 2, its transfer, and the device's own block to the result. -/
theorem part9 (c : Dev nD) (v2 v231 : BitVec 32) (q6 : PosShare TreeShare) (f : Buf (Elt F) ((c : Thread nD τ).loc cc0_stg0_0))
    (Kt : (Σ' (v272 : BitVec 32) (c4_i32_221 : BitVec 32) (v273 : BitVec 1), BitVec 32) → sProp 𝕄) :
    iprop((records m K ∗ levAts L lv ∗ ow c (oR1 c) ∗ (∃ f, sPts c 2 f) ∗ (∃ f, rPts (adv 2 c) 2 f)
        ∗ dutyTok ER (sendCell c 2) 0 0 ∗ dutyTok ER (recvCell (adv 2 c) 2) 0 0
        ∗ xvPts c (xb m c) ∗ cW4 m c q6 ∗ oPts c f)
      ∗ (∀ v, (ow c 0 ∗ cred (tallyAt (sendCell c 2) () N) ∗ xvPts c (xb m c) ∗ dPts c dW4 (wv m c) ∗ wTok m c q6 ∗ semVal (loadCell c 6) 0
            ∗ oPts c (oOwn m c f)) -∗ Kt v))
      ⊢ WP c (k0_part9 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 v231 (k0_pay4 (rdX m c xAll) (rdW m c w2R))) Kt := by
  simp only [k0_part9_eq_skeleton]; unfold k0_part9_skel
  simp only [Prog.lift, Prog.bind_op, Prog.bind_ret, Prog.pure_eq_ret]
  unfold cW4
  iintro ⟨⟨#HR, #Hlev, HO, Hs2, Hn2, HtS, HtV, Hx, Hc6, Ho⟩, Hk⟩
  iapply (wp_store_slot m c 2 rfl) $$ Hs2; iintro Hs2
  iapply (wp_send_at m K c _ 2 (dev6_eq c) 0) $$ [Hs2 Hn2 HO HtS HtV]
  · isplitr; · iexact HR
    isplitl [Hs2]; · iexact Hs2
    isplitl [Hn2]; · iexact Hn2
    isplitl [HO]; · iexact HO
    isplitl [HtS] <;> iassumption
  iintro ⟨HcS, HO⟩
  iapply (wp_copied c (sW4 c) dW4 (loadS 6) (by decide) 0 (above_zero 0)) $$ [HO Hc6]
  · isplitl [Hc6]; · iexact Hc6
    isplitl [HO]; · iexact HO
    iexact Hlev
  iintro ⟨Hd6, Hw, Hv6, HO⟩
  iapply (wp_load_xv c (xb m c) xAll) $$ Hx; iintro Hx
  iapply (wp_load_w m c w3R dW4 (wv m c) (by unfold dPts; rw [dW4_set, View.set_slice_whole])) $$ [Hd6]
  · unfold dPts; iexact Hd6
  iintro Hd6
  iapply (wp_load_out c f _) $$ Ho; iintro Ho
  iapply (wp_store_out c f _ _) $$ Ho; iintro Ho
  iapply (WP_ret c)
  iapply Hk
  isplitl [HO]; · iexact HO
  isplitl [HcS]; · iexact HcS
  isplitl [Hx]; · iexact Hx
  isplitl [Hd6]; · iexact Hd6
  isplitl [Hw]; · unfold wTok; iexact Hw
  isplitl [Hv6]; · iexact Hv6
  unfold oOwn; iexact Ho

/-- The wait for slot 0 and its block to the result. -/
theorem part10 (c : Dev nD) (v2 v139 v272 c4 : BitVec 32) (v273 : BitVec 1) (c1 : BitVec 32) (f : Buf (Elt F) ((c : Thread nD τ).loc cc0_stg0_0)) (Kt : (Σ' (v300 : BitVec 32) (v301 : BitVec 32) (v302 : BitVec 1), BitVec 1) → sProp 𝕄) :
    iprop((records m K ∗ ow c 0 ∗ cred (tallyAt (recvCell c 0) () N) ∗ atPos ER (recvCell c 0) 0 ∅ 0 ∗ oPts c f)
      ∗ (∀ v, (ow c 0 ∗ semVal (recvCell c 0) 0 ∗ rPts c 0 (rv m c) ∗ oPts c (oRcv0 m c f)) -∗ Kt v))
      ⊢ WP c (k0_part10 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 v139 v272 c4 v273 c1) Kt := by
  simp only [k0_part10_eq_skeleton]; unfold k0_part10_skel
  simp only [Prog.lift, Prog.bind_op, Prog.bind_ret, Prog.pure_eq_ret]
  iintro ⟨⟨#HR, HO, Hc, Hat, Ho⟩, Hk⟩
  iapply (wp_recv_at m K c 0) $$ [HO Hc Hat]
  · isplitr; · iexact HR
    isplitl [Hc]; · iexact Hc
    isplitl [HO] <;> iassumption
  iintro ⟨HO, Hz, Hr⟩
  iapply (wp_load_rslot m c 0) $$ Hr; iintro Hr
  iapply (wp_load_out c f _) $$ Ho; iintro Ho
  iapply (wp_store_out c f _ _) $$ Ho; iintro Ho
  iapply (WP_ret c)
  iapply Hk
  isplitl [HO]; · iexact HO
  isplitl [Hz]; · iexact Hz
  isplitl [Hr]; · iexact Hr
  unfold oRcv0; iexact Ho

/-- The wait for slot 1 and its block to the result. -/
theorem part11 (c : Dev nD) (v2 v194 v231 v300 v301 : BitVec 32) (v302 v305 : BitVec 1) (f : Buf (Elt F) ((c : Thread nD τ).loc cc0_stg0_0)) (Kt : (Σ' (v334 : BitVec 32), BitVec 32) → sProp 𝕄) :
    iprop((records m K ∗ ow c 0 ∗ cred (tallyAt (recvCell c 1) () N) ∗ atPos ER (recvCell c 1) 0 ∅ 0 ∗ oPts c f)
      ∗ (∀ v, (ow c 0 ∗ semVal (recvCell c 1) 0 ∗ rPts c 1 (rv m c) ∗ oPts c (oRcv1 m c f)) -∗ Kt v))
      ⊢ WP c (k0_part11 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v2 v194 v231 v300 v301 v302 v305) Kt := by
  simp only [k0_part11_eq_skeleton]; unfold k0_part11_skel
  simp only [Prog.lift, Prog.bind_op, Prog.bind_ret, Prog.pure_eq_ret]
  iintro ⟨⟨#HR, HO, Hc, Hat, Ho⟩, Hk⟩
  iapply (wp_recv_at m K c 1) $$ [HO Hc Hat]
  · isplitr; · iexact HR
    isplitl [Hc]; · iexact Hc
    isplitl [HO] <;> iassumption
  iintro ⟨HO, Hz, Hr⟩
  iapply (wp_load_rslot m c 1) $$ Hr; iintro Hr
  iapply (wp_load_out c f _) $$ Ho; iintro Ho
  iapply (wp_store_out c f _ _) $$ Ho; iintro Ho
  iapply (WP_ret c)
  iapply Hk
  isplitl [HO]; · iexact HO
  isplitl [Hz]; · iexact Hz
  isplitl [Hr]; · iexact Hr
  unfold oRcv1; iexact Ho

/-- The wait for slot 2, its block to the result, and the waits for the first two sends. -/
theorem part12 (c : Dev nD) (v334 v335 : BitVec 32) (f : Buf (Elt F) ((c : Thread nD τ).loc cc0_stg0_0)) (Kt : PUnit → sProp 𝕄) :
    iprop((records m K ∗ ow c 0 ∗ cred (tallyAt (recvCell c 2) () N) ∗ atPos ER (recvCell c 2) 0 ∅ 0 ∗ oPts c f
        ∗ cred (tallyAt (sendCell c 0) () N) ∗ atPos ER (sendCell c 0) 0 ∅ 0 ∗ cred (tallyAt (sendCell c 1) () N) ∗ atPos ER (sendCell c 1) 0 ∅ 0)
      ∗ ((ow c 0 ∗ semVal (recvCell c 2) 0 ∗ rPts c 2 (rv m c) ∗ oPts c (oRcv2 m c f)
            ∗ semVal (sendCell c 0) 0 ∗ sPts c 0 (sv m c) ∗ semVal (sendCell c 1) 0 ∗ sPts c 1 (sv m c)) -∗ Kt ⟨⟩))
      ⊢ WP c (k0_part12 (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 c v334 v335) Kt := by
  simp only [k0_part12_eq_skeleton]; unfold k0_part12_skel
  simp only [Prog.lift, Prog.bind_op, Prog.bind_ret, Prog.pure_eq_ret]
  iintro ⟨⟨#HR, HO, Hc, Hat, Ho, HcS0, HatS0, HcS1, HatS1⟩, Hk⟩
  iapply (wp_recv_at m K c 2) $$ [HO Hc Hat]
  · isplitr; · iexact HR
    isplitl [Hc]; · iexact Hc
    isplitl [HO] <;> iassumption
  iintro ⟨HO, Hz, Hr⟩
  iapply (wp_load_rslot m c 2) $$ Hr; iintro Hr
  iapply (wp_load_out c f _) $$ Ho; iintro Ho
  iapply (wp_store_out c f _ _) $$ Ho; iintro Ho
  iapply (wp_sent_at m K c 0) $$ [HO HcS0 HatS0]
  · isplitr; · iexact HR
    isplitl [HcS0]; · iexact HcS0
    isplitl [HO] <;> iassumption
  iintro ⟨HO, HzS0, Hs0⟩
  iapply (wp_sent_at m K c 1) $$ [HO HcS1 HatS1]
  · isplitr; · iexact HR
    isplitl [HcS1]; · iexact HcS1
    isplitl [HO] <;> iassumption
  iintro ⟨HO, HzS1, Hs1⟩
  iapply (WP_ret c)
  iapply Hk
  isplitl [HO]; · iexact HO
  isplitl [Hz]; · iexact Hz
  isplitl [Hr]; · iexact Hr
  isplitl [Ho]; · unfold oRcv2; iexact Ho
  isplitl [HzS0]; · iexact HzS0
  isplitl [Hs0]; · iexact Hs0
  isplitl [HzS1] <;> iassumption

end Cert.AllToAllProof

end
-- ==== Proof.Root.lean ====
/-
# The body as a whole

The parts in sequence: from a device's ghost, its semaphores, its four scratch buffers, shares of its two arguments and
the result's staging buffer, to the result's contents, everything else returned and every semaphore at zero.
-/
module

public import proofs.«01_k».proof.Proof.Body

@[expose] public section

noncomputable section

namespace Cert.AllToAllProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result's contents -/

/-- The place of an index of the result in its row block. -/
def inBand (i : S1024x256.Idx) : S256x256.Idx := fun a => match a with
  | ⟨0, _⟩ => ⟨(i 0).val % 256, Nat.mod_lt _ (by decide)⟩
  | ⟨1, _⟩ => i 1

/-- A store to row block `b` sets the elements of that block and no others. -/
theorem write_band (c : Dev nD) (off : Fin 2 → ℕ) (inb : ∀ a, off a + S256x256.size a ≤ S1024x256.size a) (b : ℕ) (hoff : off = ![256 * b, 0])
    (f : Buf (Elt F) ((c : Thread nD τ).loc cc0_stg0_0)) (w : S256x256.Idx → Elt F .f32) (i : S1024x256.Idx) :
    (oM.access (Rect.unit (s := S1024x256) off S256x256.size inb) : View sig .tc _ _ _).write (Elt F) f w Finset.univ i
      = if (i 0).val / 256 = b then w (inBand i) else f i := by
  subst hoff
  have h0 : (i 0).val < 1024 := (i 0).isLt
  have h1 : (i 1).val < 256 := (i 1).isLt
  split
  · rename_i hb
    have he : (oM.access (Rect.unit (s := S1024x256) ![256 * b, 0] S256x256.size inb) : View sig .tc _ _ _).emb (inBand i) = i := by
      refine funext fun a => Fin.ext ?_
      fin_cases a
      · show 256 * b + 1 * ((i 0).val % 256) = (i 0).val; omega
      · show 0 + 1 * (i 1).val = (i 1).val; omega
    have h := View.write_emb_of_mem (v := (oM.access (Rect.unit (s := S1024x256) ![256 * b, 0] S256x256.size inb) : View sig .tc _ _ _)) (Val := Elt F) f w (Finset.mem_univ (inBand i))
    rw [he, cast_eq] at h
    exact h
  · rename_i hb
    refine View.write_of_not_mem (v := (oM.access (Rect.unit (s := S1024x256) ![256 * b, 0] S256x256.size inb) : View sig .tc _ _ _)) (Val := Elt F) f w Finset.univ ?_
    rw [View.setOn_univ, View.set_slice_whole]
    intro hi
    have h := (Rect.mem_set_unit.mp hi) 0
    have h' : 256 * b ≤ (i 0).val ∧ (i 0).val < 256 * b + 256 := h
    omega

/-- The result's buffer after the four stores. -/
def outOf (c : Dev nD) (f : Buf (Elt F) ((c : Thread nD τ).loc cc0_stg0_0)) : Buf (Elt F) ((c : Thread nD τ).loc cc0_stg0_0) :=
  oRcv2 m c (oRcv1 m c (oRcv0 m c (oOwn m c f)))

/-- The device that is none of the three before `c` is `c`. -/
theorem rest_dev (c : Dev nD) : ∀ n : Fin 4, n.val ≠ (bck 2 c).val → n.val ≠ (bck 1 c).val → n.val ≠ (bck 0 c).val → n.val = c.val := by revert c; decide

/-- Each element is of the block of the device its row block names. -/
theorem outOf_apply (c : Dev nD) (f : Buf (Elt F) ((c : Thread nD τ).loc cc0_stg0_0)) (i : S1024x256.Idx) :
    outOf m c f i = if (i 0).val / 256 = (bck 2 c).val then k0_pay9 (rdR m c 2) (inBand i)
      else if (i 0).val / 256 = (bck 1 c).val then k0_pay8 (rdR m c 1) (inBand i)
      else if (i 0).val / 256 = (bck 0 c).val then k0_pay7 (rdR m c 0) (inBand i)
      else k0_pay6 (rdX m c xAll) (rdW m c w3R) (inBand i) := by
  unfold outOf oRcv2 oRcv1 oRcv0 oOwn
  rw [write_band c _ _ _ (off5_2 c), write_band c _ _ _ (off5_1 c), write_band c _ _ _ (off5_0 c), write_band c _ _ _ (off4_eq c)]
  have h0 : (i 0).val < 1024 := (i 0).isLt
  have hc : ∀ n : Fin 4, n.val ≠ (bck 2 c).val → n.val ≠ (bck 1 c).val → n.val ≠ (bck 0 c).val → n.val = c.val := rest_dev c
  split
  · rfl
  · split
    · rfl
    · split
      · rfl
      · rw [if_pos (hc ⟨(i 0).val / 256, by omega⟩ ‹_› ‹_› ‹_›)]

/-- It does not depend on what the buffer held before; `outAt` is the result. -/
def outAt (c : Dev nD) : Buf (Elt F) ((c : Thread nD τ).loc cc0_stg0_0) := outOf m c (m ((c : Thread nD τ).loc cc0_stg0_0))
theorem outOf_eq (c : Dev nD) (f : Buf (Elt F) ((c : Thread nD τ).loc cc0_stg0_0)) : outOf m c f = outAt m c :=
  funext fun i => (outOf_apply m c f i).trans (outOf_apply m c _ i).symm

/-! ## What the body starts from and ends with -/

variable (K : Dev nD × CK → ℕ)

/-- A device's positions in its own protocol cells. -/
def posns (c : Dev nD) : sProp 𝕄 :=
  iprop(atPos ER (barCell c) 0 ∅ 0 ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- The tokens of the duties a device pays. -/
def payToks (c : Dev nD) : sProp 𝕄 :=
  iprop((dutyTok ER (barCell (adv 0 c)) 0 2 ∗ dutyTok ER (barCell (adv 1 c)) 0 1 ∗ dutyTok ER (barCell (adv 2 c)) 0 0)
    ∗ (dutyTok ER (sendCell c 0) 0 0 ∗ dutyTok ER (sendCell c 1) 0 0 ∗ dutyTok ER (sendCell c 2) 0 0)
    ∗ (dutyTok ER (recvCell (adv 0 c) 0) 0 0 ∗ dutyTok ER (recvCell (adv 1 c) 1) 0 0 ∗ dutyTok ER (recvCell (adv 2 c) 2) 0 0))
/-- The credit the other devices' debts at launch give. -/
def startCred (c : Dev nD) : sProp 𝕄 :=
  iprop(cred (tallyAt (barCell c) () 3) ∗ cred (tallyAt (recvCell c 0) () N) ∗ cred (tallyAt (recvCell c 1) () N) ∗ cred (tallyAt (recvCell c 2) () N))
/-- The semaphores of the local copies, at zero. -/
def loads0 (c : Dev nD) : sProp 𝕄 :=
  iprop(semVal (loadCell c 0) 0 ∗ semVal (loadCell c 1) 0 ∗ semVal (loadCell c 2) 0 ∗ semVal (loadCell c 3) 0 ∗ semVal (loadCell c 4) 0
    ∗ semVal (loadCell c 5) 0 ∗ semVal (loadCell c 6) 0)
/-- The protocol's semaphores, at zero. -/
def sends0 (c : Dev nD) : sProp 𝕄 :=
  iprop((semVal (sendCell c 0) 0 ∗ semVal (sendCell c 1) 0 ∗ semVal (sendCell c 2) 0) ∗ (semVal (recvCell c 0) 0 ∗ semVal (recvCell c 1) 0 ∗ semVal (recvCell c 2) 0))
/-- The four scratch buffers. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
/-- The two arguments. -/
def args (c : Dev nD) : sProp 𝕄 := iprop(xTok m c fullShare ∗ wTok m c fullShare)

/-! ## The arguments' shares -/

/-- `x` in two shares and a rest; `w` in five and a rest. -/
theorem x_shares (c : Dev nD) : (xTok m c fullShare : sProp 𝕄)
    ⊣⊢ iprop(xTok m c (Transfers.shareDrop fullShare 2) ∗ xTok m c (Transfers.shareTokN fullShare 0) ∗ xTok m c (Transfers.shareTokN fullShare 1)) := by
  have h := Transfers.pointsTo_toks (Ix := Unit) (Name := ℕ) (U := UU) (Lvl := ℕ) (ℓ := (c : Thread nD τ).loc main_arg0) (S := Finset.univ) (f := xb m c) fullShare 2
  unfold xTok
  refine h.trans ?_
  rw [bigSep_univ_eq_bigSepL [0, 1] (by decide) (by decide)]
  exact .rfl
theorem w_shares (c : Dev nD) : (wTok m c fullShare : sProp 𝕄)
    ⊣⊢ iprop(wTok m c (Transfers.shareDrop fullShare 5) ∗ wTok m c (Transfers.shareTokN fullShare 0) ∗ wTok m c (Transfers.shareTokN fullShare 1) ∗ wTok m c (Transfers.shareTokN fullShare 2)
      ∗ wTok m c (Transfers.shareTokN fullShare 3) ∗ wTok m c (Transfers.shareTokN fullShare 4)) := by
  have h := Transfers.pointsTo_toks (Ix := Unit) (Name := ℕ) (U := UU) (Lvl := ℕ) (ℓ := (c : Thread nD τ).loc main_arg1) (S := Finset.univ) (f := wb m c) fullShare 5
  unfold wTok
  refine h.trans ?_
  rw [bigSep_univ_eq_bigSepL [0, 1, 2, 3, 4] (by decide) (by decide)]
  exact .rfl

/-! ## The body -/

/-- A sequence runs as its first part and then the rest. -/
theorem WP_bind (c : Dev nD) {α β : Type} {Q : β → sProp 𝕄} {p : Prog (TpuEff nD τ sig (Elt F) Λ₀ .tc) α}
    {k : α → Prog (TpuEff nD τ sig (Elt F) Λ₀ .tc) β} : WP c p (fun a => WP c (k a) Q) ⊢ WP c (p >>= k) Q :=
  Entails.of_eq (wp_bind ..).symm

/-- What the body starts from. -/
def bodyPre (c : Dev nD) : sProp 𝕄 :=
  iprop(records m K ∗ levAts L lv ∗ ow c (owed0 c) ∗ posns c ∗ payToks c ∗ startCred c ∗ loads0 c ∗ args m c ∗ scratch c ∗ (∃ f, oPts c f))
/-- What it ends with. -/
def bodyPost (c : Dev nD) : sProp 𝕄 :=
  iprop(ow c 0 ∗ oPts c (outAt m c) ∗ args m c ∗ scratch c ∗ loads0 c ∗ sends0 c ∗ semVal (barCell c) 0)

/-- The body, from its start to its end. -/
theorem sound_body (c : Dev nD) (Kt : PUnit → sProp 𝕄) :
    iprop(bodyPre m K c ∗ (bodyPost m c -∗ Kt ⟨⟩)) ⊢ WP c (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [cc0_body_eq_skeleton]; unfold cc0_body_skel
  unfold bodyPre posns payToks startCred loads0 args scratch
  iintro ⟨⟨#HR, #Hlev, HO, ⟨HaB, ⟨HaS0, HaS1, HaS2⟩, HaV0, HaV1, HaV2⟩, ⟨⟨HtB0, HtB1, HtB2⟩, ⟨HtS0, HtS1, HtS2⟩, HtV0, HtV1, HtV2⟩,
    ⟨HcB, HcV0, HcV1, HcV2⟩, ⟨Hl0, Hl1, Hl2, Hl3, Hl4, Hl5, Hl6⟩, ⟨Hx, Hw⟩, ⟨⟨%fx, Hxv⟩, ⟨%fw, Hwv⟩, ⟨%fs, Hsv⟩, ⟨%fr, Hrv⟩⟩, ⟨%fo, Hout⟩⟩, Hk⟩
  ihave Hx := (x_shares m c).1 $$ Hx
  icases Hx with ⟨Hxr, Hx0, Hx1⟩
  ihave Hw := (w_shares m c).1 $$ Hw
  icases Hw with ⟨Hwr, Hw0, Hw1, Hw2, Hw3, Hw4⟩
  ihave Hxv := (xv_pieces c fx).1 $$ [Hxv]
  · unfold xvPts; iexact Hxv
  icases Hxv with ⟨Hdx0, Hdx1⟩
  ihave Hwv := (Entails.of_eq (wv_pieces c fw)) $$ Hwv
  icases Hwv with ⟨Hdw0, Hdw1, Hdw2, Hdw3, Hdw4⟩
  ihave Hsv := (Entails.of_eq (sv_pieces c fs)) $$ Hsv
  icases Hsv with ⟨Hs0, Hs1, Hs2⟩
  ihave Hrv := (Entails.of_eq (rv_pieces c fr)) $$ Hrv
  icases Hrv with ⟨Hr0, Hr1, Hr2⟩
  iapply (WP_bind c)
  iapply (part1 m c (Transfers.shareTokN fullShare 0) (Transfers.shareTokN fullShare 1) (Transfers.shareTokN fullShare 0))
  isplitl [Hx0 Hx1 Hw0 Hdx0 Hdx1 Hdw0 Hl0 Hl1 Hl2]
  · isplitl [Hx0]; · iexact Hx0
    isplitl [Hx1]; · iexact Hx1
    isplitl [Hw0]; · iexact Hw0
    isplitl [Hdx0]; · iexists fx; iexact Hdx0
    isplitl [Hdx1]; · iexists fx; iexact Hdx1
    isplitl [Hdw0]; · iexists fw; iexact Hdw0
    isplitl [Hl0]; · iexact Hl0
    isplitl [Hl1]; · iexact Hl1
    iexact Hl2
  iintro %v2 ⟨Hc0, Hc1, Hc2⟩
  try dsimp only
  iapply (WP_bind c)
  iapply (part2 m c v2 (Transfers.shareTokN fullShare 1) (Transfers.shareTokN fullShare 2))
  isplitl [Hw1 Hw2 Hdw1 Hdw2 Hl3 Hl4]
  · isplitl [Hw1]; · iexact Hw1
    isplitl [Hw2]; · iexact Hw2
    isplitl [Hdw1]; · iexists fw; iexact Hdw1
    isplitl [Hdw2]; · iexists fw; iexact Hdw2
    isplitl [Hl3]; · iexact Hl3
    iexact Hl4
  iintro %p2 ⟨Hc3, Hc4⟩
  try dsimp only
  iapply (WP_bind c)
  iapply (part3 m c v2 p2.1 p2.2.1 p2.2.2.1 p2.2.2.2 (Transfers.shareTokN fullShare 3) (Transfers.shareTokN fullShare 4))
  isplitl [Hw3 Hw4 Hdw3 Hdw4 Hl5 Hl6]
  · isplitl [Hw3]; · iexact Hw3
    isplitl [Hw4]; · iexact Hw4
    isplitl [Hdw3]; · iexists fw; iexact Hdw3
    isplitl [Hdw4]; · iexists fw; iexact Hdw4
    isplitl [Hl5]; · iexact Hl5
    iexact Hl6
  iintro %p3 ⟨Hc5, Hc6⟩
  try dsimp only
  iapply (WP_bind c)
  iapply (part4 m K c v2 p3.1 p3.2.1 p3.2.2)
  isplitl [HO HtB0 HtB1 Hr2 Hr1]
  · isplitr; · iexact HR
    isplitl [HO]; · iexact HO
    isplitl [HtB0]; · iexact HtB0
    isplitl [HtB1]; · iexact HtB1
    isplitl [Hr2]; · iexists fr; iexact Hr2
    iexists fr; iexact Hr1
  iintro %p4 HO
  try dsimp only
  iapply (WP_bind c)
  iapply (part5 m K c v2 p4.1 p4.2 (Transfers.shareTokN fullShare 0) (Transfers.shareTokN fullShare 0))
  isplitl [HO HtB2 Hr0 Hc0 Hc2]
  · isplitr; · iexact HR
    isplitr; · iexact Hlev
    isplitl [HO]; · iexact HO
    isplitl [HtB2]; · iexact HtB2
    isplitl [Hr0]; · iexists fr; iexact Hr0
    isplitl [Hc0]; · iexact Hc0
    iexact Hc2
  iintro %p5 ⟨HO, Hdx0, Hdw0, Hx0, Hw0, Hl0, Hl2⟩
  try dsimp only
  iapply (WP_bind c)
  iapply (part6 m K c p5 (Transfers.shareTokN fullShare 1) (Transfers.shareTokN fullShare 1))
  isplitl [HO Hc1 Hc3 Hs0 HcB HaB HtS0 HtV0]
  · isplitr; · iexact HR
    isplitr; · iexact Hlev
    isplitl [HO]; · iexact HO
    isplitl [Hc1]; · iexact Hc1
    isplitl [Hc3]; · iexact Hc3
    isplitl [Hs0]; · iexists fs; iexact Hs0
    isplitl [HcB]; · iexact HcB
    isplitl [HaB]; · iexact HaB
    isplitl [HtS0]; · iexact HtS0
    iexact HtV0
  iintro %p6 ⟨HO, Hdx1, Hdw1, Hx1, Hw1, Hl1, Hl3, HzB, Hn1, Hn2, HcS0⟩
  try dsimp only
  ihave Hxv := (xv_pieces c (xb m c)).2 $$ [Hdx0 Hdx1]
  · isplitl [Hdx0] <;> iassumption
  iapply (WP_bind c)
  iapply (part7 m c v2 p6 (Transfers.shareTokN fullShare 2))
  isplitl [HO Hxv Hc4 Hs1]
  · isplitr; · iexact Hlev
    isplitl [HO]; · iexact HO
    isplitl [Hxv]; · iexact Hxv
    isplitl [Hc4]; · iexact Hc4
    iexists fs; iexact Hs1
  iintro %p7 ⟨HO, Hxv, Hdw2, Hw2, Hl4, Hs1⟩
  try dsimp only
  iapply (WP_bind c)
  iapply (part8 m K c v2 (Transfers.shareTokN fullShare 3))
  isplitl [HO Hs1 Hn1 HtS1 HtV1 Hxv Hc5 Hs2]
  · isplitr; · iexact HR
    isplitr; · iexact Hlev
    isplitl [HO]; · iexact HO
    isplitl [Hs1]; · iexact Hs1
    isplitl [Hn1]; · iexact Hn1
    isplitl [HtS1]; · iexact HtS1
    isplitl [HtV1]; · iexact HtV1
    isplitl [Hxv]; · iexact Hxv
    isplitl [Hc5]; · iexact Hc5
    iexists fs; iexact Hs2
  iintro %p8 ⟨HO, HcS1, Hxv, Hdw3, Hw3, Hl5, Hs2⟩
  try dsimp only
  iapply (WP_bind c)
  iapply (part9 m K c v2 p8 (Transfers.shareTokN fullShare 4) fo)
  isplitl [HO Hs2 Hn2 HtS2 HtV2 Hxv Hc6 Hout]
  · isplitr; · iexact HR
    isplitr; · iexact Hlev
    isplitl [HO]; · iexact HO
    isplitl [Hs2]; · iexact Hs2
    isplitl [Hn2]; · iexact Hn2
    isplitl [HtS2]; · iexact HtS2
    isplitl [HtV2]; · iexact HtV2
    isplitl [Hxv]; · iexact Hxv
    isplitl [Hc6]; · iexact Hc6
    iexact Hout
  iintro %p9 ⟨HO, HcS2, Hxv, Hdw4, Hw4, Hl6, Hout⟩
  try dsimp only
  iapply (WP_bind c)
  iapply (part10 m K c v2 p5 p9.1 p9.2.1 p9.2.2.1 p9.2.2.2 _)
  isplitl [HO HcV0 HaV0 Hout]
  · isplitr; · iexact HR
    isplitl [HO]; · iexact HO
    isplitl [HcV0]; · iexact HcV0
    isplitl [HaV0]; · iexact HaV0
    iexact Hout
  iintro %p10 ⟨HO, HzV0, Hr0, Hout⟩
  try dsimp only
  iapply (WP_bind c)
  iapply (part11 m K c v2 p7 p8 p10.1 p10.2.1 p10.2.2.1 p10.2.2.2 _)
  isplitl [HO HcV1 HaV1 Hout]
  · isplitr; · iexact HR
    isplitl [HO]; · iexact HO
    isplitl [HcV1]; · iexact HcV1
    isplitl [HaV1]; · iexact HaV1
    iexact Hout
  iintro %p11 ⟨HO, HzV1, Hr1, Hout⟩
  try dsimp only
  iapply (WP_bind c)
  iapply (part12 m K c p11.1 p11.2 _)
  isplitl [HO HcV2 HaV2 Hout HcS0 HaS0 HcS1 HaS1]
  · isplitr; · iexact HR
    isplitl [HO]; · iexact HO
    isplitl [HcV2]; · iexact HcV2
    isplitl [HaV2]; · iexact HaV2
    isplitl [Hout]; · iexact Hout
    isplitl [HcS0]; · iexact HcS0
    isplitl [HaS0]; · iexact HaS0
    isplitl [HcS1]; · iexact HcS1
    iexact HaS1
  iintro ⟨HO, HzV2, Hr2, Hout, HzS0, Hs0, HzS1, Hs1⟩
  try dsimp only
  simp only [Prog.lift, Prog.bind_op, Prog.bind_ret, Prog.pure_eq_ret]
  iapply (wp_sent_at m K c 2) $$ [HO HcS2 HaS2]
  · isplitr; · iexact HR
    isplitl [HcS2]; · iexact HcS2
    isplitl [HO] <;> iassumption
  iintro ⟨HO, HzS2, Hs2⟩
  iapply (WP_ret c)
  iapply Hk
  unfold bodyPost args scratch loads0 sends0
  isplitl [HO]; · iexact HO
  isplitl [Hout]
  · iapply (Entails.of_eq (congrArg (oPts c) (outOf_eq m c fo))); unfold outOf; iexact Hout
  isplitl [Hxr Hx0 Hx1 Hwr Hw0 Hw1 Hw2 Hw3 Hw4]
  · isplitl [Hxr Hx0 Hx1]
    · iapply (x_shares m c).2
      isplitl [Hxr]; · iexact Hxr
      isplitl [Hx0] <;> iassumption
    · iapply (w_shares m c).2
      isplitl [Hwr]; · iexact Hwr
      isplitl [Hw0]; · iexact Hw0
      isplitl [Hw1]; · iexact Hw1
      isplitl [Hw2]; · iexact Hw2
      isplitl [Hw3] <;> iassumption
  isplitl [Hxv Hdw0 Hdw1 Hdw2 Hdw3 Hdw4 Hs0 Hs1 Hs2 Hr0 Hr1 Hr2]
  · isplitl [Hxv]; · iexists (xb m c); unfold xvPts; iexact Hxv
    isplitl [Hdw0 Hdw1 Hdw2 Hdw3 Hdw4]
    · iexists (wv m c)
      iapply (Entails.of_eq (wv_pieces c (wv m c)).symm)
      isplitl [Hdw0]; · iexact Hdw0
      isplitl [Hdw1]; · iexact Hdw1
      isplitl [Hdw2]; · iexact Hdw2
      isplitl [Hdw3] <;> iassumption
    isplitl [Hs0 Hs1 Hs2]
    · iexists (sv m c)
      iapply (Entails.of_eq (sv_pieces c (sv m c)).symm)
      isplitl [Hs0]; · iexact Hs0
      isplitl [Hs1] <;> iassumption
    · iexists (rv m c)
      iapply (Entails.of_eq (rv_pieces c (rv m c)).symm)
      isplitl [Hr0]; · iexact Hr0
      isplitl [Hr1] <;> iassumption
  isplitl [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5] <;> iassumption
  isplitl [HzS0 HzS1 HzS2 HzV0 HzV1 HzV2]
  · isplitl [HzS0 HzS1 HzS2]
    · isplitl [HzS0]; · iexact HzS0
      isplitl [HzS1] <;> iassumption
    · isplitl [HzV0]; · iexact HzV0
      isplitl [HzV1] <;> iassumption
  iexact HzB

end Cert.AllToAllProof

end
-- ==== Proof.Launch.lean ====
/-
# The launch

From four devices' memories with every semaphore at zero: the protocol's cells are opened, the duty tokens dealt to the
devices that pay them, each device's body runs, and at the end the result array holds `outAt`, the arguments what they
held, and every semaphore counter is zero.
-/
module

public import proofs.«01_k».proof.Proof.Root
public import Idealize.ShloMosaic.Lib.Pipeline.CollectiveSegs
public import Idealize.ShloMosaic.Lib.Pipeline.ValueKit.Geometry

@[expose] public section

noncomputable section

namespace Cert.AllToAllProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from besides its scratch buffers and the result's staging buffer. -/
def start (c : Dev nD) : sProp 𝕄 :=
  iprop((∃ K, records m K ∗ posns c ∗ payToks c) ∗ startCred c ∗ levAts L lv ∗ args m c)
def Φ₀ (c : Dev nD) : sProp 𝕄 := iprop((start m c ∗ loads0 c) ∗ scratch c)
def Φ₁ (c : Dev nD) : sProp 𝕄 := iprop(args m c ∗ scratch c ∗ loads0 c ∗ sends0 c ∗ semVal (barCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => owed0 c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem bigSep_win (Φ : Fin cfg0.W → sProp 𝕄) : bigSep Finset.univ Φ = iprop(Φ (0 : Fin 1)) := bigSep_W0 Φ

/-- The one point's obligation is `sound_body`. -/
theorem point_body (c : Dev nD) (X : (cc0_stg0_0 : Ref sig .tc).ty.Contents (Elt F) → (cc0_stg0_0 : Ref sig .tc).ty.Contents (Elt F)) (Kt : PUnit → sProp 𝕄) :
    iprop((Φ₀ m c ∗ (∃ W, owes (c : Thread nD τ) (owed0 c) W)
          ∗ ∃ d, ∃ f : Buf (Elt F) ((c : Thread nD τ).loc cc0_stg0_0), ⌜f = X d⌝ ∗ (((c : Thread nD τ).loc cc0_stg0_0) ↦{fullShare} f))
        ∗ ((Φ₁ m c ∗ (∃ W, owes (c : Thread nD τ) 0 W)
            ∗ ∃ f : Buf (Elt F) ((c : Thread nD τ).loc cc0_stg0_0), ⌜f = outAt m c⌝ ∗ (((c : Thread nD τ).loc cc0_stg0_0) ↦{fullShare} f)) -∗ Kt ⟨⟩))
      ⊢ WP c (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  unfold Φ₀ Φ₁ start
  iintro ⟨⟨⟨⟨⟨⟨%K, HR, Hpos, Htok⟩, Hcr, Hlev, Hargs⟩, Hl⟩, Hscr⟩, Ho, ⟨%d, %f, -, Hout⟩⟩, Hk⟩
  iapply (sound_body m K c Kt)
  unfold bodyPre bodyPost
  isplitl [HR Hpos Htok Hcr Hlev Hargs Hl Hscr Ho Hout]
  · isplitl [HR]; · iexact HR
    isplitl [Hlev]; · iexact Hlev
    isplitl [Ho]; · unfold ow; iexact Ho
    isplitl [Hpos]; · iexact Hpos
    isplitl [Htok]; · iexact Htok
    isplitl [Hcr]; · iexact Hcr
    isplitl [Hl]; · iexact Hl
    isplitl [Hargs]; · iexact Hargs
    isplitl [Hscr]; · iexact Hscr
    iexists f; unfold oPts; iexact Hout
  · iintro ⟨HO, Hout, Hargs, Hscr, Hl, Hs, HzB⟩
    iapply Hk
    isplitl [Hargs Hscr Hl Hs HzB]
    · isplitl [Hargs]; · iexact Hargs
      isplitl [Hscr]; · iexact Hscr
      isplitl [Hl]; · iexact Hl
      isplitl [Hs] <;> iassumption
    isplitl [HO]; · unfold ow; iexact HO
    iexists (outAt m c)
    isplitr; · (ipureintro; rfl)
    unfold oPts; iexact Hout

set_option maxRecDepth 4000 in
theorem body_obligation (c : Dev nD) : BodyObligation (dats (F := F) m ρ 0 c) (defs₀ (F := F)) 𝒱₀ () Set.univ := fun t => by
  rw [fin_N0 t]
  rw [bigSep_win, bigSep_win]
  simp only [owns_whole]
  show iprop(Φ₀ m c ∗ (dats m ρ 0 c).owesAt () t0_0.castSucc
      ∗ ∃ d, ∃ f : Buf (Elt F) ((c : Thread nD τ).loc cc0_stg0_0), ⌜f = (dats m ρ 0 c).before (0 : Fin 1) t0_0 d⌝ ∗ (((c : Thread nD τ).loc cc0_stg0_0) ↦{fullShare} f))
    ⊢ WP c (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) (fun _ => iprop(Φ₁ m c ∗ (dats m ρ 0 c).owesAt () t0_0.succ
      ∗ ∃ f : Buf (Elt F) ((c : Thread nD τ).loc cc0_stg0_0), ⌜f = outAt m c⌝ ∗ (((c : Thread nD τ).loc cc0_stg0_0) ↦{fullShare} f)))
  unfold Dat.owesAt Pipeline.owesWithin
  rw [show (dats m ρ 0 c).owed t0_0.castSucc = owed0 c from rfl, show (dats m ρ 0 c).owed t0_0.succ = 0 from rfl]
  iintro ⟨HΦ, ⟨%W, %hW, HO⟩, Hout⟩
  iapply (point_body m c ((dats m ρ 0 c).before (0 : Fin 1) t0_0) _)
  isplitl [HΦ HO Hout]
  · isplitl [HΦ]; · iexact HΦ
    isplitl [HO]; · iexists W; iexact HO
    iexact Hout
  · iintro ⟨HΦ, ⟨%W', HO⟩, Hout⟩
    isplitl [HΦ]; · iexact HΦ
    isplitl [HO]
    · iexists W'
      isplitr; · (ipureintro; exact fun _ _ => Or.inl trivial)
      iexact HO
    iexact Hout

/-! ## The cells and the tokens at launch -/

/-- The kernel's own semaphores: the local copies', the sends', the receives'. -/
abbrev osem : Fin 13 → SemLoc sig := fun j => .dma ⟨1 + j.val, by have : sig.nDmaSem = 14 := rfl; omega⟩
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have hc : ∀ (d : Dev nD) (j : CK), (kcell (d, j)).1.1 = d := fun d j => by rcases j with _ | ⟨_ | _, j⟩ <;> rfl
  have h1 : c = c' := by rw [← hc c k, h, hc]
  subst h1
  have h2 : (kcell (c, k)).2 = (kcell (c, k')).2 := congrArg Prod.snd h
  have hk : k = k' := by
    rcases k with _ | ⟨_ | _, j⟩ <;> rcases k' with _ | ⟨_ | _, j'⟩
    · rfl
    · cases h2
    · cases h2
    · cases h2
    · have h3 : 8 + j.val = 8 + j'.val := congrArg (fun s : DmaSem sig => s.val) (SemLoc.dma.inj h2)
      rw [show j = j' from Fin.ext (by omega)]
    · have h3 : 8 + j.val = 11 + j'.val := congrArg (fun s : DmaSem sig => s.val) (SemLoc.dma.inj h2)
      omega
    · cases h2
    · have h3 : 11 + j.val = 8 + j'.val := congrArg (fun s : DmaSem sig => s.val) (SemLoc.dma.inj h2)
      omega
    · have h3 : 11 + j.val = 11 + j'.val := congrArg (fun s : DmaSem sig => s.val) (SemLoc.dma.inj h2)
      rw [show j = j' from Fin.ext (by omega)]
  subst hk; rfl
def ringCells : Finset (GSem nD τ sig) := Finset.univ.map ⟨kcell, kcell_injective⟩

/-- The duties of a device's own cells: the barrier's three (`none`), each send's and each receive's one. -/
def tokOf (x : Dev nD × (Option Bool × Fin 3)) : GSem nD τ sig × ℕ × Fin 3 := match x with
  | (c, none, k) => (barCell c, 0, k)
  | (c, some b, k) => (kcell (c, some (b, k)), 0, 0)
theorem tokOf_injective : Function.Injective tokOf := by
  rintro ⟨c, b, k⟩ ⟨c', b', k'⟩ h
  have hg : (tokOf (c, b, k)).1 = (tokOf (c', b', k')).1 := congrArg Prod.fst h
  have hd : (tokOf (c, b, k)).2.2 = (tokOf (c', b', k')).2.2 := congrArg (fun x : GSem nD τ sig × ℕ × Fin 3 => x.2.2) h
  rcases b with _ | b <;> rcases b' with _ | b'
  · have h1 := kcell_injective (show kcell (c, none) = kcell (c', none) from hg)
    have h2 : k = k' := hd
    rw [h2, show c = c' from congrArg Prod.fst h1]
  · exact absurd (kcell_injective (show kcell (c, none) = kcell (c', some (b', k')) from hg)) (fun h => by cases h)
  · exact absurd (kcell_injective (show kcell (c, some (b, k)) = kcell (c', none) from hg)) (fun h => by cases h)
  · have h1 := kcell_injective (show kcell (c, some (b, k)) = kcell (c', some (b', k')) from hg)
    cases h1; rfl
def ringToks : Finset (GSem nD τ sig × ℕ × Fin 3) := Finset.univ.map ⟨tokOf, tokOf_injective⟩

/-- The launch element: the staging cells' copy, the protocol's, the counters' unit. -/
def u₀ : UU :=
  (initOf (Pipeline.cells cfgs cellOf_inj) (Pipeline.launchToks cfgs cellOf_inj), (initOf ringCells ringToks, 1))

/-- The tokens of a device's own cells' duties. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch element deals a device. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
/-- What the global step makes of it, with the local copies' semaphores. -/
def G' (c : Dev nD) : sProp 𝕄 := iprop((∃ K, records m K ∗ posns c ∗ payToks c) ∗ loads0 c)

theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
theorem bigSep_tok (Φ : Option Bool × Fin 3 → sProp 𝕄) : bigSep Finset.univ Φ
    = iprop(Φ (none, 0) ∗ Φ (none, 1) ∗ Φ (none, 2) ∗ Φ (some false, 0) ∗ Φ (some false, 1) ∗ Φ (some false, 2)
        ∗ Φ (some true, 0) ∗ Φ (some true, 1) ∗ Φ (some true, 2)) :=
  bigSep_univ_eq_bigSepL [(none, 0), (none, 1), (none, 2), (some false, 0), (some false, 1), (some false, 2), (some true, 0), (some true, 1), (some true, 2)]
    (by decide) (by decide) Φ

theorem toks_intro (c : Dev nD) :
    (bigSep Finset.univ fun x : Option Bool × Fin 3 => (dutyTok ER (tokOf (c, x)).1 (tokOf (c, x)).2.1 (tokOf (c, x)).2.2 : sProp 𝕄)) ⊢ toks c := by
  rw [bigSep_tok]
  unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-- The protocol's part of the launch element, dealt to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores -/

theorem ownSems0_chain (c : Dev nD) : (Pipeline.ownSems0 (Ix := Unit) (Name := ℕ) (U := UU) (Lvl := ℕ) (Val := Elt F) (τ := τ) osem c : sProp 𝕄)
    = iprop(semVal (loadCell c 0) 0 ∗ semVal (loadCell c 1) 0 ∗ semVal (loadCell c 2) 0 ∗ semVal (loadCell c 3) 0 ∗ semVal (loadCell c 4) 0
      ∗ semVal (loadCell c 5) 0 ∗ semVal (loadCell c 6) 0 ∗ semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [0, 1, 2, 3, 4, 5, 6, 7, 8, 9, 10, 11, 12] (by decide) (by decide)]; rfl
/-- The kernel's own semaphores are the local copies' and the protocol's; -/
theorem ownSems0_split (c : Dev nD) : (Pipeline.ownSems0 (Ix := Unit) (Name := ℕ) (U := UU) (Lvl := ℕ) (Val := Elt F) (τ := τ) osem c : sProp 𝕄)
    ⊢ iprop(loads0 c ∗ sends0 c) := by
  rw [ownSems0_chain]; unfold loads0 sends0
  iintro ⟨H0, H1, H2, H3, H4, H5, H6, H7, H8, H9, H10, H11, H12⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [H7 H8 H9]
  · isplitl [H7]; · iexact H7
    isplitl [H8] <;> iassumption
  isplitl [H10]; · iexact H10
  isplitl [H11] <;> iassumption
theorem ownSems0_join (c : Dev nD) : iprop(loads0 c ∗ sends0 c)
    ⊢ (Pipeline.ownSems0 (Ix := Unit) (Name := ℕ) (U := UU) (Lvl := ℕ) (Val := Elt F) (τ := τ) osem c : sProp 𝕄) := by
  rw [ownSems0_chain]; unfold loads0 sends0
  iintro ⟨⟨H0, H1, H2, H3, H4, H5, H6⟩, ⟨H7, H8, H9⟩, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11] <;> iassumption
/-- the barrier semaphore is the one the launch keeps. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells0_intro (c : Dev nD) :
    iprop(sends0 c ∗ unscopedSems0 c) ⊢ (bigSep Finset.univ fun k : CK => semVal (kcell (c, k)) 0 : sProp 𝕄) := by
  rw [unscopedSems0_eq, bigSep_CK]; unfold sends0
  iintro ⟨⟨⟨H0, H1, H2⟩, H3, H4, H5⟩, HB⟩
  isplitl [HB]; · iexact HB
  isplitl [H0]; · iexact H0
  isplitl [H1]; · iexact H1
  isplitl [H2]; · iexact H2
  isplitl [H3]; · iexact H3
  isplitl [H4]; · iexact H4
  iexact H5

/-! ## The global step -/

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ loads0 c) := by
  unfold G
  iintro ⟨Hos, Hus, Hst, Hat, Htok⟩
  ihave Hos := (ownSems0_split (F := F) c) $$ Hos
  icases Hos with ⟨Hl, Hs⟩
  ihave Hv := (cells0_intro (F := F) c) $$ [Hs Hus]
  · isplitl [Hs] <;> iassumption
  have halloc : iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  imod halloc $$ [Hv Hst] with Hinv
  · isplitl [Hv] <;> iassumption
  imodintro
  isplitl [Hinv]; · iexact Hinv
  isplitl [Hat]; · iexact Hat
  isplitl [Htok] <;> iassumption

theorem bar_around (k d : Fin 3) : (bigSep Finset.univ fun c : Dev nD => (dutyTok ER (barCell c) 0 d : sProp 𝕄))
    = bigSep Finset.univ fun c : Dev nD => dutyTok ER (barCell (adv k c)) 0 d :=
  bigSep_univ_equiv (rot k) (fun c : Dev nD => (dutyTok ER (barCell c) 0 d : sProp 𝕄))
theorem recv_around (k : Fin 3) : (bigSep Finset.univ fun c : Dev nD => (dutyTok ER (recvCell c k) 0 0 : sProp 𝕄))
    = bigSep Finset.univ fun c : Dev nD => dutyTok ER (recvCell (adv k c) k) 0 0 :=
  bigSep_univ_equiv (rot k) (fun c : Dev nD => (dutyTok ER (recvCell c k) 0 0 : sProp 𝕄))

/-- The tokens go to the devices that pay the duties: each barrier's and each receive's to the device that many places before. -/
theorem toks_around : (bigSep Finset.univ fun c : Dev nD => (toks c : sProp 𝕄)) ⊢ bigSep Finset.univ fun c : Dev nD => payToks c := by
  unfold toks payToks
  simp only [bigSep_sep']
  rw [bar_around 2 0, bar_around 1 1, bar_around 0 2, recv_around 0, recv_around 1, recv_around 2]
  iintro ⟨⟨H0, H1, H2⟩, HS, HV⟩
  isplitl [H0 H1 H2]
  · isplitl [H2]; · iexact H2
    isplitl [H1]; · iexact H1
    iexact H0
  isplitl [HS]; · iexact HS
  iexact HV

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posns_intro (c : Dev nD) : (bigSep Finset.univ fun k : CK => (atPos ER (kcell (c, k)) 0 ∅ 0 : sProp 𝕄)) ⊢ posns c := by
  rw [bigSep_CK]; unfold posns
  iintro ⟨HB, H0, H1, H2, H3, H4, H5⟩
  isplitl [HB]; · iexact HB
  isplitl [H0 H1 H2]
  · isplitl [H0]; · iexact H0
    isplitl [H1]; · iexact H1
    iexact H2
  isplitl [H3]; · iexact H3
  isplitl [H4]; · iexact H4
  iexact H5

theorem ghost_intro (K : Dev nD × CK → ℕ) (c : Dev nD) :
    iprop(records m K ∗ (bigSep Finset.univ fun k : CK => (atPos ER (kcell (c, k)) 0 ∅ 0 : sProp 𝕄)) ∗ payToks c ∗ loads0 c) ⊢ G' m c := by
  unfold G'
  iintro ⟨HR, Hat, Htok, Hl⟩
  isplitl [HR Hat Htok]
  · iexists K
    isplitl [HR]; · iexact HR
    isplitl [Hat]; · iapply (posns_intro (F := F) c); iexact Hat
    iexact Htok
  iexact Hl

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ loads0 c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hl⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_inj {a b : Dev nD} (h : barCell a = barCell b) : a = b := congrArg (fun g : GSem nD τ sig => g.1.1) h
theorem recv_inj {a b : Dev nD} {k k' : Fin 3} (h : recvCell a k = recvCell b k') : a = b ∧ k = k' := by
  have h' := kcell_injective (show kcell (a, some (true, k)) = kcell (b, some (true, k')) from h)
  cases h'; exact ⟨rfl, rfl⟩

theorem oBar_bar (d c : Dev nD) (k : Fin 3) : oBar d k (barCell c) () = if d = bck k c then 1 else 0 := by
  unfold oBar
  rw [tallyAt_apply]
  by_cases h : d = bck k c
  · rw [if_pos h, if_pos ⟨by rw [h, adv_bck], rfl⟩]
  · rw [if_neg h, if_neg fun h' => h (by rw [bar_inj h'.1, bck_adv])]
theorem oBar_recv (d c : Dev nD) (k k' : Fin 3) : oBar d k (recvCell c k') () = 0 := by
  unfold oBar
  rw [tallyAt_ne_cell (fun h => by have := congrArg Prod.snd h; cases this)]; rfl
theorem oRecv_bar (d c : Dev nD) (k : Fin 3) : oRecv d k (barCell c) () = 0 := by
  unfold oRecv
  rw [tallyAt_ne_cell (fun h => by have := congrArg Prod.snd h; cases this)]; rfl
theorem oRecv_same (d c : Dev nD) (k : Fin 3) : oRecv d k (recvCell c k) () = if d = bck k c then N else 0 := by
  unfold oRecv
  rw [tallyAt_apply]
  by_cases h : d = bck k c
  · rw [if_pos h, if_pos ⟨by rw [h, adv_bck], rfl⟩]
  · rw [if_neg h, if_neg fun h' => h (by rw [(recv_inj h'.1).1, bck_adv])]
theorem oRecv_other (d c : Dev nD) (k k' : Fin 3) (h : k ≠ k') : oRecv d k (recvCell c k') () = 0 := by
  unfold oRecv
  rw [tallyAt_apply, if_neg fun h' => h (recv_inj h'.1).2.symm]

theorem owed0_apply (d : Dev nD) (g : GSem nD τ sig) : owed0 d g () = oRecv d 2 g () + oRecv d 1 g () + oRecv d 0 g () + oBar d 2 g () + oBar d 1 g () + oBar d 0 g () := by
  unfold owed0 oB2 oB1 oR3 oR2 oR1
  rw [zero_add]; rfl

theorem owed0_bar (d c : Dev nD) : owed0 d (barCell c) () = (if d = bck 2 c then 1 else 0) + (if d = bck 1 c then 1 else 0) + (if d = bck 0 c then 1 else 0) := by
  rw [owed0_apply, oRecv_bar, oRecv_bar, oRecv_bar, oBar_bar, oBar_bar, oBar_bar]; omega
theorem owed0_recv (d c : Dev nD) (k : Fin 3) : owed0 d (recvCell c k) () = if d = bck k c then N else 0 := by
  rw [owed0_apply, oBar_recv, oBar_recv, oBar_recv]
  match k with
  | 0 => rw [oRecv_other d c 2 0 (by decide), oRecv_other d c 1 0 (by decide), oRecv_same]; omega
  | 1 => rw [oRecv_other d c 2 1 (by decide), oRecv_other d c 0 1 (by decide), oRecv_same]; omega
  | 2 => rw [oRecv_other d c 1 2 (by decide), oRecv_other d c 0 2 (by decide), oRecv_same]; omega

/-- A device's barrier is owed a unit by each of the three others; each of its receive cells a slot's credit by one. -/
theorem launch_bar (c : Dev nD) :
    tallyOn (barCell c) (launchCredit (Pipeline.owing owed0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib, Finset.sum_add_distrib,
    Finset.sum_ite_eq' Finset.univ (bck 2 c) fun _ => 1, Finset.sum_ite_eq' Finset.univ (bck 1 c) fun _ => 1, Finset.sum_ite_eq' Finset.univ (bck 0 c) fun _ => 1,
    if_pos (Finset.mem_univ _), if_pos (Finset.mem_univ _), if_pos (Finset.mem_univ _)]
theorem launch_recv (c : Dev nD) (k : Fin 3) :
    tallyOn (recvCell c k) (launchCredit (Pipeline.owing owed0) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed0_recv d c k, Finset.sum_ite_eq' Finset.univ (bck k c) fun _ => N,
    if_pos (Finset.mem_univ _)]

theorem creds (c : Dev nD) : (Pipeline.launchCred owed0 c : sProp 𝕄) ⊢ startCred c := by
  unfold Pipeline.launchCred startCred
  have h : (bigSep Finset.univ fun sm : SemLoc sig => (cred (tallyOn ((c : Thread nD τ), sm) (launchCredit (Pipeline.owing owed0) 0 ((c : Thread nD τ), sm))) : sProp 𝕄))
      ⊢ bigSep [SemLoc.reg barS, SemLoc.dma (recvS 0), SemLoc.dma (recvS 1), SemLoc.dma (recvS 2)].toFinset
        fun sm : SemLoc sig => (cred (tallyOn ((c : Thread nD τ), sm) (launchCredit (Pipeline.owing owed0) 0 ((c : Thread nD τ), sm))) : sProp 𝕄) :=
    BI.bigSep_subset (Finset.subset_univ _)
  refine h.trans ?_
  rw [bigSep_eq_bigSepL_of_eq [SemLoc.reg barS, SemLoc.dma (recvS 0), SemLoc.dma (recvS 1), SemLoc.dma (recvS 2)] rfl (by decide),
    ← launch_bar, ← launch_recv, ← launch_recv, ← launch_recv]
  exact Entails.of_eq rfl

/-! ## The side conditions -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop((start m c ∗ loads0 c) ∗ emp) := by
  rw [Pipeline.unscopedRestP_none, unscopedRest0_eq]
  unfold start args xTok wTok G'
  iintro ⟨⟨Hx, Hw⟩, Hlev, Hcr, -, HG, Hl⟩
  ihave Hc := (creds (F := F) c) $$ Hcr
  imodintro
  isplitl
  · isplitl [HG Hc Hlev Hx Hw]
    · isplitl [HG]; · iexact HG
      isplitl [Hc]; · iexact Hc
      isplitl [Hlev]; · iexact Hlev
      isplitl [Hx]; · iexact Hx
      iexact Hw
    iexact Hl
  · iempintro

theorem phi0_intro (c : Dev nD) :
    iprop((start m c ∗ loads0 c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What is read at the end besides the result: the arguments and the barrier semaphore. -/
def endY (c : Dev nD) : sProp 𝕄 := iprop(args m c ∗ unscopedSems0 c)

theorem phi1_exit (c : Dev nD) :
    (dats m ρ 0 c).Φ (Fin.last cfg0.N) ⊢ iprop(endY m c ∗ Pipeline.ownSems0 osem c ∗ Pipeline.scopedRest cfg0.spec c) := by
  rw [show (dats m ρ 0 c).Φ (Fin.last cfg0.N) = Φ₁ m c from rfl, scopedRest0_eq]
  unfold Φ₁ endY scratch
  rw [unscopedSems0_eq]
  iintro ⟨Ha, Hr, Hl, Hs, HzB⟩
  isplitl [Ha HzB]
  · isplitl [Ha] <;> iassumption
  isplitl [Hl Hs]
  · iapply (ownSems0_join (F := F) c)
    isplitl [Hl] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    refine mayWait_of_above c _ _ ?_
    rw [show lv ((c : Thread nD τ), _) () = 0 from lv_low c _ (by fin_cases w <;> fin_cases s <;> decide)]
    rcases t with ⟨_ | _, ht⟩
    · exact above_owed0 c
    · exact above_zero 0

theorem args_read (c : Dev nD) (s' : Phys nD τ sig (Elt F)) :
    iprop(args m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold args xTok wTok
  have h := pointsTo_read_all (Ix := Unit) (Name := ℕ) (U := UU) (Lvl := ℕ) (Finset.univ : Finset (Fin 2))
    (fun i => (c : Thread nD τ).loc (match i with | 0 => main_arg0 | 1 => main_arg1)) (fun i => m _) s'
  rw [bigSep_univ_eq_bigSepL [0, 1] (by decide) (by decide)] at h
  have h' : iprop(((((c : Thread nD τ).loc main_arg0) ↦{fullShare} xb m c) ∗ (((c : Thread nD τ).loc main_arg1) ↦{fullShare} wb m c)) ∗ SI s') ⊢ _ := h
  iintro H
  ihave H := h' $$ H
  icases H with ⟨%h, HSI⟩
  isplitr
  · ipureintro; exact ⟨h 0 (Finset.mem_univ _), h 1 (Finset.mem_univ _)⟩
  iexact HSI

/-! ## The run -/

set_option maxRecDepth 8000 in
/-- For any float values and any memory with every counter at zero, every weakly fair execution on the four devices
    terminates; at the end each device's result array holds its window's contents after the body, its arguments what
    they held, and every semaphore counter is zero. -/
theorem run_win : θ_run defs (onTc (τ := τ) (main (F := F))) (st0 m ρ) (fun r =>
    (∀ c : Dev nD, (∀ w : Fin cfg0.W, r.2.mem ((cfg0.win w).arr.view.loc (c : Thread nD τ)) = (dats m ρ 0 c).arrAt w cfg0.N)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ [HX] with HG
      · unfold ER; iexact HX
      imodintro
      isplitl [HP] <;> iassumption)
    (hglob := glob m)
    (hA := fun _ _ => rfl) (hpf := fun _ k => k.elim0)
    (X := fun c => iprop(start m c ∗ loads0 c)) (Y := fun c => endY m c) (Z := fun _ => iprop(emp))
    (hX := start_intro m ρ) (hin := phi0_intro m ρ) (hout := phi1_exit m ρ)
    (QY := fun c s => (s.mem ((c : Thread nD τ).loc main_arg0) = m ((c : Thread nD τ).loc main_arg0)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold endY
      iintro ⟨⟨Ha, Hu⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hz, HSI⟩
      · isplitl [Hu] <;> iassumption
      imodintro
      isplitr; · ipureintro; exact ⟨ha, hz⟩
      iexact HSI)
    (hQ := fun _ h hs => ⟨fun c => ⟨fun w => (h c).1 w, (h c).2.2.1⟩, sem_eq_zero hs fun c => (h c).2.2.2⟩)

theorem whole0 : (cfg0.win (0 : Fin 1)).WholeAt t0_0 := by decide +kernel
theorem placed {c : Dev nD} (G : Buf (Elt F) ((c : Thread nD τ).loc cc0_stg0_0)) (j : (cfg0.win (0 : Fin 1)).shape.Idx) :
    _root_.cast (congrArg (Elt F) (cfg0.win (0 : Fin 1)).arr.view.elt_eq.symm) (G fun a => ⟨j a, whole0.lt_size j a⟩)
      = G ((cfg0.win (0 : Fin 1)).arr.view.emb j) := rfl
/-- The one write-back takes the staging buffer's contents to the result array. -/
theorem final_result (c : Dev nD) : (dats m ρ 0 c).arrAt (0 : Fin 1) cfg0.N = outAt m c:= by
  funext i
  have h := (dats m ρ 0 c).arrAt_emb_eq_after_last (0 : Fin 1) t0_0 whole0 i
  have ha : (dats m ρ 0 c).after (0 : Fin 1) t0_0 = outAt m c := rfl
  rw [ha] at h
  exact h.trans (placed (outAt m c) i)

/-- The run with the result named: every device's result array holds `outAt`. -/
theorem run_main : θ_run defs (onTc (τ := τ) (main (F := F))) (st0 m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨((h.1 c).1 (0 : Fin 1)).trans (final_result m ρ c), (h.1 c).2⟩, h.2⟩) (run_win m ρ)

end Cert.AllToAllProof

end
-- ==== Proof.Value.lean ====
/-
# What the result holds, over the extended reals

Each of a device's four row blocks is the silu of the rows of one device times this device's columns of `w`, whichever way
the product was cut and whichever way it travelled.
-/
module

public import proofs.«01_k».proof.Proof.Root
public import Idealize.ShloMosaic.Lib.Pointwise

@[expose] public section

noncomputable section

namespace Cert.AllToAllProof

open Cert.KernelIdeal Cert.KernelIdeal.Gen
open Idealize.ShloMosaic
open Idealize.ShloMosaic.TcCoe
open Idealize.ShloMosaic.Pointwise

/-- `y / (1 + exp (-y))`. -/
def silu (y : EReal) : EReal := Ideal.div y (1 + Ideal.exp (-y))

theorem exp_nonneg (y : EReal) : 0 ≤ Ideal.exp y := by
  induction y with
  | bot => simp
  | top => simp
  | coe r => simp only [Ideal.exp_coe]; exact_mod_cast (Real.exp_pos r).le
theorem one_add_exp_ne (y : EReal) : 1 + Ideal.exp y ≠ 0 :=
  (lt_of_lt_of_le zero_lt_one (le_add_of_nonneg_right (exp_nonneg y))).ne'
/-- The kernel's `y · logistic y` is that quotient, at every extended real. -/
theorem mul_logistic (y : EReal) : y * Ideal.logistic y = silu y := by
  unfold silu Ideal.logistic Ideal.div
  rw [if_neg (one_add_exp_ne _), if_neg (one_add_exp_ne _), one_mul]

/-! ## The payloads at an index -/

theorem pay6_apply (x : Vec Ideal S256x1024 .f32) (w : Vec Ideal S1x1024x256 .f32) (r l : Fin 256) :
    k0_pay6 x w (ix2 r l) = silu (∑ k : Fin 1024, x (ix2 r k) * w (ix3 0 k l)) := by
  pointwise [k0_pay6]
  exact mul_logistic _
theorem pay3_apply (x : Vec Ideal S256x1024 .f32) (w : Vec Ideal S1x1024x256 .f32) (r l : Fin 256) :
    k0_pay3 x w (ix3 0 r l) = silu (∑ k : Fin 1024, x (ix2 r k) * w (ix3 0 k l)) := by
  pointwise [k0_pay3]
  exact mul_logistic _
theorem pay5_apply (x : Vec Ideal S256x1024 .f32) (w : Vec Ideal S1x1024x256 .f32) (r l : Fin 256) :
    k0_pay5 (k0_pay4 x w) (ix3 0 r l) = silu (∑ k : Fin 1024, x (ix2 r k) * w (ix3 0 k l)) := by
  pointwise [k0_pay5, k0_pay4]
  exact mul_logistic _
theorem pay2_apply (x x' : Vec Ideal S256x512 .f32) (w w' : Vec Ideal S1x512x256 .f32) (r l : Fin 256) :
    k0_pay2 (k0_pay1 x w) x' w' (ix3 0 r l)
      = silu ((∑ k : Fin 512, x (ix2 r k) * w (ix3 0 k l)) + ∑ k : Fin 512, x' (ix2 r k) * w' (ix3 0 k l)) := by
  pointwise [k0_pay2, k0_pay1]
  exact mul_logistic _
theorem pay7_apply (v : Vec Ideal S1x256x256 .bf16) (r l : Fin 256) : k0_pay7 v (ix2 r l) = v (ix3 0 r l) := by
  pointwise [k0_pay7]
theorem pay8_apply (v : Vec Ideal S1x256x256 .bf16) (r l : Fin 256) : k0_pay8 v (ix2 r l) = v (ix3 0 r l) := by
  pointwise [k0_pay8]
theorem pay9_apply (v : Vec Ideal S1x256x256 .bf16) (r l : Fin 256) : k0_pay9 v (ix2 r l) = v (ix3 0 r l) := by
  pointwise [k0_pay9]

/-! ## The reads -/

section
variable {F : FTy → Type} [FloatOps F] (m : (ℓ : Loc nD τ sig) → Buf (Elt F) ℓ)

theorem rdX_apply (c : Dev nD) (r : Rect S256x1024) (i : r.shape.Idx) : rdX m c r i = xb m c (r.emb i) := rfl
theorem rdW_apply (c : Dev nD) (r : Rect S4x1024x256) (i : r.shape.Idx) : rdW m c r i = wb m c (wIdx c (r.emb i)) := rfl
theorem rdR_apply (c : Dev nD) (k : Fin 3) (i : (slotR k).shape.Idx) : rdR m c k i = rv m c ((slotR k).emb i) := rfl

/-- Column `l` of block `b` of `w`. -/
def colIdx (b : Fin 4) (l : Fin 256) : Fin 1024 := ⟨256 * b.val + l.val, by have := b.isLt; have := l.isLt; omega⟩
/-- The column block whose product device `c` puts in slot `s`. -/
def colDev (c : Dev nD) (s : ℕ) : Fin 4 := ⟨colOf c s, Nat.mod_lt _ (by decide)⟩

theorem rdX_lo (c : Dev nD) (r : Fin 256) (k : Fin 512) : rdX m c xLo (ix2 r k) = xb m c (ix2 r ⟨k.val, by have := k.isLt; omega⟩) := by
  rw [rdX_apply]
  refine congrArg (xb m c) (funext fun a => Fin.ext ?_)
  fin_cases a
  · show 0 + 1 * r.val = r.val; omega
  · show 0 + 1 * k.val = k.val; omega
theorem rdX_hi (c : Dev nD) (r : Fin 256) (k : Fin 512) : rdX m c xHi (ix2 r k) = xb m c (ix2 r ⟨512 + k.val, by have := k.isLt; omega⟩) := by
  rw [rdX_apply]
  refine congrArg (xb m c) (funext fun a => Fin.ext ?_)
  fin_cases a
  · show 0 + 1 * r.val = r.val; omega
  · show 512 + 1 * k.val = 512 + k.val; omega
theorem rdX_all (c : Dev nD) (r : Fin 256) (k : Fin 1024) : rdX m c xAll (ix2 r k) = xb m c (ix2 r k) := by
  rw [rdX_apply]
  refine congrArg (xb m c) (funext fun a => Fin.ext ?_)
  fin_cases a
  · show 0 + 1 * r.val = r.val; omega
  · show 0 + 1 * k.val = k.val; omega

/-- A load of `K` rows, from row `h` on, of slot `s` of the weight buffer reads those rows of `w` in the slot's columns. -/
theorem rdW_slot (c : Dev nD) (s h K : ℕ) (inb : ∀ a, (![s, h, 0] : Fin 3 → ℕ) a + (![1, K, 256] : Fin 3 → ℕ) a ≤ S4x1024x256.size a)
    (k : Fin K) (l : Fin 256) (hk : h + k.val < 1024) :
    rdW m c (Rect.unit (s := S4x1024x256) ![s, h, 0] ![1, K, 256] inb) (ix3 0 k l) = wb m c (ix2 ⟨h + k.val, hk⟩ (colIdx (colDev c s) l)) := by
  rw [rdW_apply]
  refine congrArg (wb m c) (funext fun a => Fin.ext ?_)
  fin_cases a
  · show h + 1 * k.val = h + k.val; omega
  · show 256 * colOf c (s + 1 * 0) + (0 + 1 * l.val) = 256 * colOf c s + l.val
    rw [Nat.mul_zero, Nat.add_zero, Nat.one_mul, Nat.zero_add]

/-- A load of slot `k` of the receive buffer reads the block of the device `k + 1` places before. -/
theorem rdR_slot (c : Dev nD) (k : Fin 3) (r l : Fin 256) : rdR m c k (ix3 0 r l) = pay m (bck k c) k (ix3 0 r l) := by
  have hk : ((slotR k).emb (ix3 0 r l)) 0 = k := Fin.ext (show k.val + 1 * 0 = k.val by omega)
  rw [rdR_apply]
  unfold rv sv
  rw [hk]
  refine congrArg (pay m (bck k c) k) (funext fun a => Fin.ext ?_)
  fin_cases a
  · rfl
  · show 0 + 1 * r.val = r.val; omega
  · show 0 + 1 * l.val = l.val; omega

end

/-! ## The blocks -/

variable (m : (ℓ : Loc nD τ sig) → Buf (Elt Ideal) ℓ)

/-- Device `d`'s rows of `x`, and its copy of `w`, as arrays of extended reals. -/
def xe (d : Dev nD) : S256x1024.Idx → EReal := xb m d
def we (d : Dev nD) : S1024x1024.Idx → EReal := wb m d

/-- The silu of the product of device `d`'s row `r` of `x` with a column of `w`. -/
def entry (d : Dev nD) (r : Fin 256) (l : Fin 1024) : EReal := silu (∑ k : Fin 1024, xe m d (ix2 r k) * we m d (ix2 k l))

/-- The block sent from slot `s`: the rows of the sender, the columns of the slot's device. The first slot's product is cut
    in two halves of the contraction; their sum is the whole. -/
theorem pay_apply (d : Dev nD) (s : Fin 3) (r l : Fin 256) : pay m d s (ix3 0 r l) = entry m d r (colIdx (colDev d s.val) l) := by
  match s with
  | 0 =>
    refine (pay2_apply _ _ _ _ r l).trans (congrArg silu ?_)
    rw [Fin.sum_univ_two_halves 512 512 rfl]
    refine congrArg₂ (· + ·) (Finset.sum_congr rfl fun k _ => congrArg₂ (· * ·) (rdX_lo m d r k) ?_) (Finset.sum_congr rfl fun k _ => congrArg₂ (· * ·) (rdX_hi m d r k) ?_)
    · refine (rdW_slot m d 0 0 512 _ k l (by have := k.isLt; omega)).trans ?_
      exact congrArg (fun q : Fin 1024 => wb m d (ix2 q _)) (Fin.ext (Nat.zero_add _))
    · exact rdW_slot m d 0 512 512 _ k l _
  | 1 =>
    refine (pay3_apply _ _ r l).trans (congrArg silu (Finset.sum_congr rfl fun k _ => congrArg₂ (· * ·) (rdX_all m d r k) ?_))
    refine (rdW_slot m d 1 0 1024 _ k l (by have := k.isLt; omega)).trans ?_
    exact congrArg (fun q : Fin 1024 => wb m d (ix2 q _)) (Fin.ext (Nat.zero_add _))
  | 2 =>
    refine (pay5_apply _ _ r l).trans (congrArg silu (Finset.sum_congr rfl fun k _ => congrArg₂ (· * ·) (rdX_all m d r k) ?_))
    refine (rdW_slot m d 2 0 1024 _ k l (by have := k.isLt; omega)).trans ?_
    exact congrArg (fun q : Fin 1024 => wb m d (ix2 q _)) (Fin.ext (Nat.zero_add _))

/-- The block a device keeps is of the same form, at its own columns. -/
theorem own_apply (c : Dev nD) (r l : Fin 256) : k0_pay6 (rdX m c xAll) (rdW m c w3R) (ix2 r l) = entry m c r (colIdx (colDev c 3) l) := by
  refine (pay6_apply _ _ r l).trans (congrArg silu (Finset.sum_congr rfl fun k _ => congrArg₂ (· * ·) (rdX_all m c r k) ?_))
  refine (rdW_slot m c 3 0 1024 _ k l (by have := k.isLt; omega)).trans ?_
  exact congrArg (fun q : Fin 1024 => wb m c (ix2 q _)) (Fin.ext (Nat.zero_add _))

theorem colDev_bck (c : Dev nD) (k : Fin 3) : colDev (bck k c) k.val = c := by revert c k; decide
theorem colDev_own (c : Dev nD) : colDev c 3 = c := by revert c; decide

/-- What comes in over slot `k` is the block of the device `k + 1` places before, at this device's columns. -/
theorem recv_apply (c : Dev nD) (k : Fin 3) (r l : Fin 256) : rdR m c k (ix3 0 r l) = entry m (bck k c) r (colIdx c l) := by
  rw [rdR_slot, pay_apply, colDev_bck]

/-- The device whose rows a row of the result is of. -/
def rowDev (i : S1024x256.Idx) : Dev nD := ⟨(i 0).val / 256, by have : (i 0).val < 1024 := (i 0).isLt; show _ < 4; omega⟩

/-- Every element of device `c`'s result: the silu of the product of its row's device's row with its column of `c`'s block. -/
theorem outAt_apply (c : Dev nD) (i : S1024x256.Idx) : outAt m c i = entry m (rowDev i) (inBand i 0) (colIdx c (inBand i 1)) := by
  have hi : inBand i = ix2 (n0 := 256) (n1 := 256) (inBand i 0) (inBand i 1) := eq_ix2 _
  have hd : ∀ d : Dev nD, (i 0).val / 256 = d.val → rowDev i = d := fun d h => Fin.ext h
  have h0 : (i 0).val < 1024 := (i 0).isLt
  unfold outAt
  rw [outOf_apply]
  split
  · rename_i h
    rw [hd _ h]; exact (congrArg (k0_pay9 (rdR m c 2)) hi).trans ((pay9_apply _ _ _).trans (recv_apply m c 2 _ _))
  · split
    · rename_i h
      rw [hd _ h]; exact (congrArg (k0_pay8 (rdR m c 1)) hi).trans ((pay8_apply _ _ _).trans (recv_apply m c 1 _ _))
    · split
      · rename_i h
        rw [hd _ h]; exact (congrArg (k0_pay7 (rdR m c 0)) hi).trans ((pay7_apply _ _ _).trans (recv_apply m c 0 _ _))
      · rw [hd c (rest_dev c ⟨(i 0).val / 256, by omega⟩ ‹_› ‹_› ‹_›)]; exact (congrArg (k0_pay6 (rdX m c xAll) (rdW m c w3R)) hi).trans ((own_apply m c _ _).trans (by rw [colDev_own]))

/-! ## Against the whole arrays -/

/-- The silu of the product of two whole arrays, at an element. -/
def whole (x w : S1024x1024.Idx → EReal) (i : S1024x1024.Idx) : EReal := silu (∑ k : Fin 1024, x (ix2 (i 0) k) * w (ix2 k (i 1)))

/-- Where every device holds its rows of `x` and the whole of `w`, device `c`'s result is its columns of `whole x w`. -/
theorem outAt_block (x w : S1024x1024.Idx → EReal)
    (hx : ∀ c : Dev nD, xb m c = Layout.block ⟨2, ![256, 1024]⟩ ⟨2, ![1024, 1024]⟩ 0 4 c x) (hw : ∀ c : Dev nD, wb m c = w) (c : Dev nD) :
    outAt m c = Layout.block ⟨2, ![1024, 256]⟩ ⟨2, ![1024, 1024]⟩ 1 4 c (whole x w) := by
  funext i
  rw [outAt_apply, Layout.block_apply]
  unfold entry whole xe we
  rw [hx, hw]
  refine congrArg silu (Finset.sum_congr rfl fun k _ => congrArg₂ (· * ·) ?_ ?_)
  · rw [Layout.block_apply]
    refine congrArg x (funext fun a => Fin.ext ?_)
    fin_cases a
    · show (i 0).val / 256 * 256 + (i 0).val % 256 = (i 0).val; omega
    · rfl
  · refine congrArg w (funext fun a => Fin.ext ?_)
    fin_cases a
    · rfl
    · show 256 * c.val + (i 1).val = c.val * 256 + (i 1).val; omega

end Cert.AllToAllProof

end
-- ==== Proof.Ref.lean ====
/-
# What the references compute, over the extended reals

Without the clip: `whole`, at all arguments. With the clip: the same where every entry of the product lies within it, which
is what the precondition says of each device's rows.
-/
module

public import proofs.«01_k».proof.Proof.Value
public import proofs.«01_k».proof.Proof.Gen.ReferenceIdeal.Run
public import proofs.«01_k».proof.Proof.Gen.UnclippedIdeal.Run
public import proofs.«01_k».proof.Pre_within_clip_KernelIdeal
public import proofs.«01_k».proof.Pre_within_clip_ReferenceIdeal
public import Idealize.ShloMosaic.Lib.Pointwise

@[expose] public section

noncomputable section

namespace Cert.AllToAllProof

open Idealize.ShloMosaic
open Idealize.ShloMosaic.Pointwise

/-- The side conditions of the precondition, at one device's shapes and at the whole arrays'. -/
theorem pre_facts : Cert.Pre_within_clip_KernelIdeal.Facts := ⟨by decide, by decide⟩
theorem pre_facts_whole : Cert.Pre_within_clip_ReferenceIdeal.Facts := ⟨by decide, by decide⟩

/-- The clip's bounds are plus and minus sixty. -/
theorem bits_60 : Ideal.ofBits .f32 0x42700000#32 = ((60 : ℝ) : EReal) := by
  simp [Ideal.ofBits, Ideal.ieee, -EReal.coe_mul]; norm_num
theorem bits_neg_60 : Ideal.ofBits .f32 0xC2700000#32 = ((-60 : ℝ) : EReal) := by
  simp [Ideal.ofBits, Ideal.ieee, -EReal.coe_mul, -EReal.coe_neg]; norm_num

/-- A value of magnitude at most sixty is its own clip. -/
theorem clip_eq {y : EReal} (h : Ideal.cmp .ole (max y (-y)) ((60 : ℝ) : EReal) = 1#1) : min ((60 : ℝ) : EReal) (max ((-60 : ℝ) : EReal) y) = y := by
  have h' : max y (-y) ≤ ((60 : ℝ) : EReal) := by
    by_contra hn
    simp [Ideal.cmp, hn] at h
  have h1 : y ≤ ((60 : ℝ) : EReal) := (le_max_left _ _).trans h'
  have h2 : ((-60 : ℝ) : EReal) ≤ y := by
    rw [EReal.coe_neg]
    exact EReal.neg_le_of_neg_le ((le_max_right _ _).trans h')
  rw [max_eq_right h2, min_eq_right h1]

/-! ## The reference without the clip -/

section
open Cert.UnclippedIdeal Cert.UnclippedIdeal.Gen

theorem unclipped_eq (x w : FVec Ideal S1024x1024 .f32) :
    Host.divf (Host.dotGeneral dot_S1024x1024_S1024x1024_S1024x1024_1_0_0_1_n_n none x w)
        (addf (broadcastInDim S1024x1024 ![] Cert.UnclippedIdeal.Gen.bcast_S_S1024x1024 (constant S_ .f32 0x3F800000#32))
          (Host.exp (Host.negf (Host.dotGeneral dot_S1024x1024_S1024x1024_S1024x1024_1_0_0_1_n_n none x w))))
      = whole x w := by
  funext i
  pointwise [whole, silu]
end

/-! ## The reference with the clip -/

section
open Cert.ReferenceIdeal Cert.ReferenceIdeal.Gen

theorem clipped_eq (x w : FVec Ideal S1024x1024 .f32)
    (h : ∀ i : S1024x1024.Idx, Ideal.cmp .ole (max (∑ k : Fin 1024, (x (ix2 (i 0) k) : EReal) * w (ix2 k (i 1))) (-(∑ k : Fin 1024, (x (ix2 (i 0) k) : EReal) * w (ix2 k (i 1))))) ((60 : ℝ) : EReal) = 1#1) :
    Host.divf (Host.dotGeneral dot_S1024x1024_S1024x1024_S1024x1024_1_0_0_1_n_n none x w)
        (addf (broadcastInDim S1024x1024 ![] Cert.ReferenceIdeal.Gen.bcast_S_S1024x1024 (constant S_ .f32 0x3F800000#32))
          (Host.exp (Host.negf (minimumf (broadcastInDim S1024x1024 ![] Cert.ReferenceIdeal.Gen.bcast_S_S1024x1024 (id (constant S_ .f32 0x42700000#32)))
            (maximumf (broadcastInDim S1024x1024 ![] Cert.ReferenceIdeal.Gen.bcast_S_S1024x1024 (id (constant S_ .f32 0xC2700000#32)))
              (Host.dotGeneral dot_S1024x1024_S1024x1024_S1024x1024_1_0_0_1_n_n none x w))))))
      = whole x w := by
  funext i
  have hi := clip_eq (h i)
  pointwise [whole, silu, id]
  rw [bits_60, bits_neg_60, hi]
end

/-! ## The precondition -/

section
open Cert.Pre_within_clip_KernelIdeal

/-- The precondition at a device's rows, at an element of their product. -/
theorem pre_apply [Cert.Pre_within_clip_KernelIdeal.Facts] (x : FVec Ideal S256x1024 .f32) (w : FVec Ideal S1024x1024 .f32)
    (h : Cert.Pre_within_clip_KernelIdeal.fn (F := Ideal) x w = fun _ => 1#1) (r : Fin 256) (l : Fin 1024) :
    Ideal.cmp .ole (max (∑ k : Fin 1024, (x (ix2 r k) : EReal) * w (ix2 k l)) (-(∑ k : Fin 1024, (x (ix2 r k) : EReal) * w (ix2 k l)))) ((60 : ℝ) : EReal) = 1#1 := by
  have h' := congrFun h (ix2 r l)
  rw [← bits_60]
  pointwise [fn] at h'
  exact h'
end

/-- A bound on the product of every device's rows is a bound on the product of the whole arrays. -/
theorem within_whole (m : (ℓ : Loc Cert.KernelIdeal.nD Cert.KernelIdeal.τ Cert.KernelIdeal.sig) → Buf (Elt Ideal) ℓ) (x w : Cert.KernelIdeal.S1024x1024.Idx → EReal)
    (hb : ∀ c : Dev Cert.KernelIdeal.nD, xb m c = Layout.block ⟨2, ![256, 1024]⟩ ⟨2, ![1024, 1024]⟩ 0 4 c x ∧ wb m c = w)
    (h : ∀ (c : Dev Cert.KernelIdeal.nD) (r : Fin 256) (l : Fin 1024),
      Ideal.cmp .ole (max (∑ k : Fin 1024, xe m c (ix2 r k) * we m c (ix2 k l)) (-(∑ k : Fin 1024, xe m c (ix2 r k) * we m c (ix2 k l)))) ((60 : ℝ) : EReal) = 1#1)
    (i : Cert.KernelIdeal.S1024x1024.Idx) :
    Ideal.cmp .ole (max (∑ k : Fin 1024, x (ix2 (i 0) k) * w (ix2 k (i 1))) (-(∑ k : Fin 1024, x (ix2 (i 0) k) * w (ix2 k (i 1))))) ((60 : ℝ) : EReal) = 1#1 := by
  have h0 : (i 0).val < 1024 := (i 0).isLt
  have e : (∑ k : Fin 1024, xe m ⟨(i 0).val / 256, by show _ < 4; omega⟩ (ix2 ⟨(i 0).val % 256, by omega⟩ k) * we m ⟨(i 0).val / 256, by show _ < 4; omega⟩ (ix2 k (i 1)))
      = ∑ k : Fin 1024, x (ix2 (i 0) k) * w (ix2 k (i 1)) := by
    unfold xe we
    rw [(hb _).1, (hb _).2]
    refine Finset.sum_congr rfl fun k _ => congrArg₂ (· * ·) ?_ rfl
    rw [Layout.block_apply]
    refine congrArg x (funext fun a => Fin.ext ?_)
    fin_cases a
    · show (i 0).val / 256 * 256 + (i 0).val % 256 = (i 0).val; omega
    · rfl
  rw [← e]
  exact h _ _ _

end Cert.AllToAllProof

end
-- ==== Proof.lean ====
/-
# The certificate's claims

The run of the kernel (Launch.lean) is proved once, over any float values: at the words it is the kernel's frame, over the
extended reals the idealized kernel's frame and, with Value.lean and Ref.lean, the equality with the two references.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Launch
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem
open Cert.AllToAllProof

/-- The two programs have one text, so their kernels' body tables agree label by label; -/
theorem bodies_eq {F : FTy → Type} [FloatOps F] : Cert.KernelIdeal.defs₀ (F := F) = Cert.Kernel.defs₀ (F := F) := by
  unfold Cert.Kernel.defs₀ Cert.KernelIdeal.defs₀
  congr 1
  funext l a
  match l, a with
  | ⟨0, _⟩, a => rfl

/-- and with them the whole tables. -/
theorem tables_eq {F : FTy → Type} [FloatOps F] : Cert.KernelIdeal.defs (F := F) = Cert.Kernel.defs (F := F) :=
  congrArg (Pipeline.defs (Cert.Kernel.pcfgs (F := F))) bodies_eq

/-- The kernel's frame: the run at the words, the result forgotten. -/
theorem frame_kernel : Cert.quiescent_Kernel := fun m ρ _ => by
  have h := run_main (F := Bits) m ρ
  rw [tables_eq] at h
  exact (θ_run Cert.Kernel.defs _ _).mono (fun _ h => ⟨fun c => (h.1 c).2, h.2⟩) h

/-- The idealized kernel's frame: the run over the extended reals, the result forgotten; -/
theorem frame_ideal : Cert.quiescent_KernelIdeal := fun m ρ _ =>
  (θ_run Cert.KernelIdeal.defs _ _).mono (fun _ h => ⟨fun c => (h.1 c).2, h.2⟩) (run_main (F := Ideal) m ρ)
/-- under the precondition no less. -/
theorem frame_ideal_pre : Cert.quiescent_KernelIdeal_pre_within_clip_KernelIdeal (hPre_within_clip_KernelIdeal := pre_facts) := fun m ρ _ =>
  frame_ideal m ρ trivial

/-- The reference's frame: its operations write no argument, and it has no semaphore; -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- under the precondition no less; -/
theorem frame_reference_pre : Cert.quiescent_ReferenceIdeal_pre_within_clip_ReferenceIdeal (hPre_within_clip_ReferenceIdeal := pre_facts_whole) := fun m ρ _ =>
  frame_reference m ρ trivial
/-- and the unclipped reference's. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The kernel's run with the result as the block of `whole` of the arrays that the devices' arguments are blocks of. -/
theorem run_whole (m : (ℓ : Loc Cert.KernelIdeal.nD Cert.KernelIdeal.τ Cert.KernelIdeal.sig) → Buf (Elt Ideal) ℓ) (ρ : Dev Cert.KernelIdeal.nD → PrngReg)
    (x w : Cert.KernelIdeal.S1024x1024.Idx → EReal)
    (h : ∀ c : Dev Cert.KernelIdeal.nD, xb m c = Layout.block ⟨2, ![256, 1024]⟩ ⟨2, ![1024, 1024]⟩ 0 4 c x ∧ wb m c = w) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Layout.block ⟨2, ![1024, 256]⟩ ⟨2, ![1024, 1024]⟩ 1 4 c (whole x w)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ hr c => ⟨(hr.1 c).1.trans (outAt_block m x w (fun d => (h d).1) (fun d => (h d).2) c), (hr.1 c).2⟩) (run_main (F := Ideal) m ρ)

/-- Over the extended reals the kernel computes the silu of the product, at all arguments. -/
theorem algebraic_unclipped : Cert.algebraic_KernelIdeal_UnclippedIdeal := by
  intro m ρ m' ρ' _ h
  refine ⟨whole (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1)), run_whole m ρ _ _ h, ?_⟩
  exact (θ_run Cert.UnclippedIdeal.defs _ _).mono (fun _ hr => ⟨(hr 0).1.trans (unclipped_eq _ _), (hr 0).2⟩)
    (Cert.UnclippedIdeal.Value.run (F := Ideal) m' ρ')

/-- Where no entry of the product lies beyond the clip, the kernel computes the reference with the clip. The entry at row
    `i` of the whole product is the entry at row `i mod 256` of the product of device `i / 256`'s rows. -/
theorem algebraic_clipped : Cert.algebraic_KernelIdeal_ReferenceIdeal_pre_within_clip_KernelIdeal (hPre_within_clip_KernelIdeal := pre_facts) := by
  intro m ρ m' ρ' hpre h
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), run_whole m ρ _ _ h, ?_⟩
  refine (θ_run Cert.ReferenceIdeal.defs _ _).mono (fun _ hr => ⟨(hr 0).1.trans (clipped_eq _ _ ?_), (hr 0).2⟩)
    (Cert.ReferenceIdeal.Value.run (F := Ideal) m' ρ')
  exact within_whole m _ _ h fun c r l => @pre_apply pre_facts _ _ (hpre c) r l

theorem claim : Cert.Claim :=
  ⟨Cert.Kernel.Gen.facts, Cert.KernelIdeal.Gen.facts, Cert.ReferenceIdeal.Gen.facts, Cert.UnclippedIdeal.Gen.facts, pre_facts, pre_facts_whole,
    frame_kernel, frame_ideal, frame_ideal_pre, frame_reference, frame_reference_pre, frame_unclipped, trivial, algebraic_unclipped, algebraic_clipped⟩

end Cert.Proof

end
